-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unmixed_and_finite [hPre_unmixed_and_finite : Cert.Pre_unmixed_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_unmixed_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_unmixed_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 = (fun _ => 1#1)
    ∧ (Cert.Pre_unmixed_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.1 = (fun _ => 1#1)
    ∧ (Cert.Pre_unmixed_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.1 = (fun _ => 1#1)
    ∧ (Cert.Pre_unmixed_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.1 = (fun _ => 1#1)
    ∧ (Cert.Pre_unmixed_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.1 = (fun _ => 1#1)
    ∧ (Cert.Pre_unmixed_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.1 = (fun _ => 1#1)
    ∧ (Cert.Pre_unmixed_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.1 = (fun _ => 1#1)
    ∧ (Cert.Pre_unmixed_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.1 = (fun _ => 1#1)
    ∧ (Cert.Pre_unmixed_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.1 = (fun _ => 1#1)
    ∧ (Cert.Pre_unmixed_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unmixed_and_finite [hPre_unmixed_and_finite : Cert.Pre_unmixed_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unmixed_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).1 = (fun _ => 1#1)
    ∧ (Cert.Pre_unmixed_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.1 = (fun _ => 1#1)
    ∧ (Cert.Pre_unmixed_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.1 = (fun _ => 1#1)
    ∧ (Cert.Pre_unmixed_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.1 = (fun _ => 1#1)
    ∧ (Cert.Pre_unmixed_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.1 = (fun _ => 1#1)
    ∧ (Cert.Pre_unmixed_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.1 = (fun _ => 1#1)
    ∧ (Cert.Pre_unmixed_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.1 = (fun _ => 1#1)
    ∧ (Cert.Pre_unmixed_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.1 = (fun _ => 1#1)
    ∧ (Cert.Pre_unmixed_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.1 = (fun _ => 1#1)
    ∧ (Cert.Pre_unmixed_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.1 = (fun _ => 1#1)
    ∧ (Cert.Pre_unmixed_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_unmixed_and_finite [hKernelIdeal : Cert.KernelIdeal.Facts] [hPre_unmixed_and_finite : Cert.Pre_unmixed_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unmixed_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_unmixed_and_finite [hReferenceIdeal : Cert.ReferenceIdeal.Facts] [hPre_unmixed_and_finite : Cert.Pre_unmixed_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unmixed_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_unmixed_and_finite [hKernelIdeal : Cert.KernelIdeal.Facts] [hReferenceIdeal : Cert.ReferenceIdeal.Facts] [hPre_unmixed_and_finite : Cert.Pre_unmixed_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unmixed_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_unmixed_and_finite : Cert.Pre_unmixed_and_finite.Facts),
    quiescent_Kernel (hKernel := hKernel)
    ∧ quiescent_KernelIdeal (hKernelIdeal := hKernelIdeal)
    ∧ quiescent_KernelIdeal_pre_unmixed_and_finite (hKernelIdeal := hKernelIdeal) (hPre_unmixed_and_finite := hPre_unmixed_and_finite)
    ∧ quiescent_ReferenceIdeal (hReferenceIdeal := hReferenceIdeal)
    ∧ quiescent_ReferenceIdeal_pre_unmixed_and_finite (hReferenceIdeal := hReferenceIdeal) (hPre_unmixed_and_finite := hPre_unmixed_and_finite)
    ∧ preserves_Kernel_KernelIdeal
    ∧ algebraic_KernelIdeal_ReferenceIdeal_pre_unmixed_and_finite (hKernelIdeal := hKernelIdeal) (hReferenceIdeal := hReferenceIdeal) (hPre_unmixed_and_finite := hPre_unmixed_and_finite)
-- ==== Pre_unmixed_and_finite.lean ====
abbrev S8x2048x1024 : Shape := ⟨3, ![8, 2048, 1024]⟩
abbrev S1024 : Shape := ⟨1, ![1024]⟩
abbrev S1024x1024 : Shape := ⟨2, ![1024, 1024]⟩
abbrev S4096x1024 : Shape := ⟨2, ![4096, 1024]⟩
abbrev S1024x4096 : Shape := ⟨2, ![1024, 4096]⟩
abbrev S_ : Shape := ⟨0, ![]⟩

class Facts : Prop where
  bcast_S_S8x2048x1024 : S_.BroadcastsInDim S8x2048x1024 (![] : Fin 0 → Fin S8x2048x1024.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn_part1 {F : FTy → Type} [FloatOps F] (main_arg13 : FVec F S1024 .f32) (main_arg14 : FVec F S1024 .f32) (main_arg15 : FVec F S1024 .f32) (main_arg16 : FVec F S1024 .f32) (main_arg17 : FVec F S1024 .f32) (main_v2 : IVec S8x2048x1024 1) (main_v5 : IVec S1024 1) (main_v8 : IVec S1024x1024 1) (main_v11 : IVec S1024x1024 1) (main_v14 : IVec S1024 1) (main_v17 : IVec S1024 1) : IVec S8x2048x1024 1 × IVec S1024 1 × IVec S1024x1024 1 × IVec S1024x1024 1 × IVec S1024 1 × IVec S1024 1 × IVec S1024 1 × IVec S1024 1 × IVec S1024 1 × IVec S1024 1 × IVec S1024 1 :=
  let main_cst_5 : FVec F S_ .f32 := constant S_ .f32 0x3F800000#32
  let main_v18 : FVec F S1024 .f32 := broadcastInDim S1024 ![] bcast_S_S1024 main_cst_5
  let main_v19 : IVec S1024 1 := cmpf .oeq main_arg13 main_v18
  let main_cst_6 : FVec F S_ .f32 := constant S_ .f32 0x3F800000#32
  let main_v20 : FVec F S1024 .f32 := broadcastInDim S1024 ![] bcast_S_S1024 main_cst_6
  let main_v21 : IVec S1024 1 := cmpf .oeq main_arg14 main_v20
  let main_cst_7 : FVec F S_ .f32 := constant S_ .f32 0x3F800000#32
  let main_v22 : FVec F S1024 .f32 := broadcastInDim S1024 ![] bcast_S_S1024 main_cst_7
  let main_v23 : IVec S1024 1 := cmpf .oeq main_arg15 main_v22
  let main_cst_8 : FVec F S_ .f32 := constant S_ .f32 0x3F800000#32
  let main_v24 : FVec F S1024 .f32 := broadcastInDim S1024 ![] bcast_S_S1024 main_cst_8
  let main_v25 : IVec S1024 1 := cmpf .oeq main_arg16 main_v24
  let main_cst_9 : FVec F S_ .f32 := constant S_ .f32 0x3F800000#32
  let main_v26 : FVec F S1024 .f32 := broadcastInDim S1024 ![] bcast_S_S1024 main_cst_9
  let main_v27 : IVec S1024 1 := cmpf .oeq main_arg17 main_v26
  (main_v2, main_v5, main_v8, main_v11, main_v14, main_v17, main_v19, main_v21, main_v23, main_v25, main_v27)

def fn {F : FTy → Type} [FloatOps F] (main_arg0 : FVec F S8x2048x1024 .f32) (main_arg1 : FVec F S1024 .f32) (main_arg2 : FVec F S1024 .f32) (main_arg3 : FVec F S1024x1024 .f32) (main_arg4 : FVec F S1024x1024 .f32) (main_arg5 : FVec F S1024x1024 .f32) (main_arg6 : FVec F S4096x1024 .f32) (main_arg7 : FVec F S1024x4096 .f32) (main_arg8 : FVec F S1024x1024 .f32) (main_arg9 : FVec F S1024 .f32) (main_arg10 : FVec F S1024 .f32) (main_arg11 : FVec F S1024 .f32) (main_arg12 : FVec F S1024 .f32) (main_arg13 : FVec F S1024 .f32) (main_arg14 : FVec F S1024 .f32) (main_arg15 : FVec F S1024 .f32) (main_arg16 : FVec F S1024 .f32) (main_arg17 : FVec F S1024 .f32) : IVec S8x2048x1024 1 × IVec S1024 1 × IVec S1024x1024 1 × IVec S1024x1024 1 × IVec S1024 1 × IVec S1024 1 × IVec S1024 1 × IVec S1024 1 × IVec S1024 1 × IVec S1024 1 × IVec S1024 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_v3 : FVec F S1024 .f32 := Host.absf main_arg2
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x1024 .f32 := Host.absf main_arg3
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S1024x1024 .f32 := Host.absf main_arg4
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S1024 .f32 := Host.absf main_arg9
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024 .f32 := Host.absf main_arg10
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg13 main_arg14 main_arg15 main_arg16 main_arg17 main_v2 main_v5 main_v8 main_v11 main_v14 main_v17
-- ==== Kernel.lean ====
abbrev S8x2048x1024 : Shape := ⟨3, ![8, 2048, 1024]⟩
abbrev S1024 : Shape := ⟨1, ![1024]⟩
abbrev S1024x1024 : Shape := ⟨2, ![1024, 1024]⟩
abbrev S4096x1024 : Shape := ⟨2, ![4096, 1024]⟩
abbrev S1024x4096 : Shape := ⟨2, ![1024, 4096]⟩
abbrev S1x1024 : Shape := ⟨2, ![1, 1024]⟩
abbrev S8x3x1024 : Shape := ⟨3, ![8, 3, 1024]⟩
abbrev S2x256x1024 : Shape := ⟨3, ![2, 256, 1024]⟩
abbrev S2x3x1024 : Shape := ⟨3, ![2, 3, 1024]⟩
abbrev S2x8x1024 : Shape := ⟨3, ![2, 8, 1024]⟩
abbrev S2x1x1024 : Shape := ⟨3, ![2, 1, 1024]⟩
abbrev S2x2x1024 : Shape := ⟨3, ![2, 2, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S256x256 : Shape := ⟨2, ![256, 256]⟩
abbrev S1x1024x1024 : Shape := ⟨3, ![1, 1024, 1024]⟩
abbrev S1024x1 : Shape := ⟨2, ![1024, 1]⟩
abbrev S8x1024x3 : Shape := ⟨3, ![8, 1024, 3]⟩

abbrev nBuf : Space → Nat
  | .hbm => 40
  | .vmem => 24
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S1024x4096, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024x1024, .f32⟩
  | .hbm, ⟨19, _⟩ => ⟨S1024x1024, .bf16⟩
  | .hbm, ⟨20, _⟩ => ⟨S1024x1024, .f32⟩
  | .hbm, ⟨21, _⟩ => ⟨S1024x1024, .bf16⟩
  | .hbm, ⟨22, _⟩ => ⟨S1024x1024, .f32⟩
  | .hbm, ⟨23, _⟩ => ⟨S1024x1024, .bf16⟩
  | .hbm, ⟨24, _⟩ => ⟨S1024x4096, .f32⟩
  | .hbm, ⟨25, _⟩ => ⟨S1024x4096, .bf16⟩
  | .hbm, ⟨26, _⟩ => ⟨S4096x1024, .f32⟩
  | .hbm, ⟨27, _⟩ => ⟨S4096x1024, .bf16⟩
  | .hbm, ⟨28, _⟩ => ⟨S1024x1024, .f32⟩
  | .hbm, ⟨29, _⟩ => ⟨S1024x1024, .bf16⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S8x2048x1024, .f32⟩
  | .hbm, ⟨37, _⟩ => ⟨S8x3x1024, .f32⟩
  | .hbm, ⟨38, _⟩ => ⟨S8x2048x1024, .f32⟩
  | .hbm, ⟨39, _⟩ => ⟨S8x1024x3, .f32⟩
  | .local _ .vmem, ⟨0, _⟩ => ⟨S2x256x1024, .f32⟩
  | .local _ .vmem, ⟨1, _⟩ => ⟨S2x256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S2x256x1024, .f32⟩
  | .local _ .vmem, ⟨10, _⟩ => ⟨S2x256x1024, .f32⟩
  | .local _ .vmem, ⟨11, _⟩ => ⟨S2x3x1024, .f32⟩
  | .local _ .vmem, ⟨12, _⟩ => ⟨S2x3x1024, .f32⟩
  | .local _ .vmem, ⟨13, _⟩ => ⟨S2x8x1024, .f32⟩
  | .local _ .vmem, ⟨14, _⟩ => ⟨S1x1024x1024, .f32⟩
  | .local _ .vmem, ⟨15, _⟩ => ⟨S1x1024x1024, .f32⟩
  | .local _ .vmem, ⟨16, _⟩ => ⟨S1x1024, .f32⟩
  | .local _ .vmem, ⟨17, _⟩ => ⟨S1x1024, .f32⟩
  | .local _ .vmem, ⟨18, _⟩ => ⟨S1024x1024, .bf16⟩
  | .local _ .vmem, ⟨19, _⟩ => ⟨S1024x4096, .bf16⟩
  | .local _ .vmem, ⟨20, _⟩ => ⟨S4096x1024, .bf16⟩
  | .local _ .vmem, ⟨21, _⟩ => ⟨S1x1024x1024, .f32⟩
  | .local _ .vmem, ⟨22, _⟩ => ⟨S1x1024x1024, .f32⟩
  | .local _ .vmem, ⟨23, _⟩ => ⟨S1024x4096, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18_0 : Ref sig .tc := ⟨.hbm, 36, rfl⟩
abbrev main_v18_1 : Ref sig .tc := ⟨.hbm, 37, rfl⟩
abbrev main_v19 : Ref sig .tc := ⟨.hbm, 38, rfl⟩
abbrev main_v20 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc1_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x3x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1024x4096 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S4096x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x1024x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== ReferenceIdeal.lean ====
abbrev S8x2048x1024 : Shape := ⟨3, ![8, 2048, 1024]⟩
abbrev S1024 : Shape := ⟨1, ![1024]⟩
abbrev S1024x1024 : Shape := ⟨2, ![1024, 1024]⟩
abbrev S4096x1024 : Shape := ⟨2, ![4096, 1024]⟩
abbrev S1024x4096 : Shape := ⟨2, ![1024, 4096]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2047x1024 : Shape := ⟨3, ![8, 2047, 1024]⟩
abbrev S2048x8x1024 : Shape := ⟨3, ![2048, 8, 1024]⟩
abbrev S8x1024 : Shape := ⟨2, ![8, 1024]⟩
abbrev S1x8x1024 : Shape := ⟨3, ![1, 8, 1024]⟩
abbrev S1x1024 : Shape := ⟨2, ![1, 1024]⟩
abbrev S8x1024x1 : Shape := ⟨3, ![8, 1024, 1]⟩
abbrev S8x1024x3 : Shape := ⟨3, ![8, 1024, 3]⟩
abbrev S8x2048x4096 : Shape := ⟨3, ![8, 2048, 4096]⟩

abbrev nBuf : Space → Nat
  | .hbm => 279
  | .vmem => 0
  | .smem => 0
  | _ => 0

abbrev hbmTy0_0 (i : Nat) : BufTy := match i % 128 with
  | 0 => ⟨S8x2048x1024, .f32⟩
  | 1 => ⟨S1024, .f32⟩
  | 2 => ⟨S1024, .f32⟩
  | 3 => ⟨S1024x1024, .f32⟩
  | 4 => ⟨S1024x1024, .f32⟩
  | 5 => ⟨S1024x1024, .f32⟩
  | 6 => ⟨S4096x1024, .f32⟩
  | 7 => ⟨S1024x4096, .f32⟩
  | 8 => ⟨S1024x1024, .f32⟩
  | 9 => ⟨S1024, .f32⟩
  | 10 => ⟨S1024, .f32⟩
  | 11 => ⟨S1024, .f32⟩
  | 12 => ⟨S1024, .f32⟩
  | 13 => ⟨S1024, .f32⟩
  | 14 => ⟨S1024, .f32⟩
  | 15 => ⟨S1024, .f32⟩
  | 16 => ⟨S1024, .f32⟩
  | 17 => ⟨S1024, .f32⟩
  | 18 => ⟨S_, .f32⟩
  | 19 => ⟨S8x2048, .f32⟩
  | 20 => ⟨S8x2048x1, .f32⟩
  | 21 => ⟨S_, .f32⟩
  | 22 => ⟨S8x2048x1, .f32⟩
  | 23 => ⟨S8x2048x1, .f32⟩
  | 24 => ⟨S8x2048x1024, .f32⟩
  | 25 => ⟨S8x2048x1024, .f32⟩
  | 26 => ⟨S8x2048x1024, .f32⟩
  | 27 => ⟨S_, .f32⟩
  | 28 => ⟨S8x2048, .f32⟩
  | 29 => ⟨S8x2048x1, .f32⟩
  | 30 => ⟨S_, .f32⟩
  | 31 => ⟨S8x2048x1, .f32⟩
  | 32 => ⟨S8x2048x1, .f32⟩
  | 33 => ⟨S8x2048x1024, .f32⟩
  | 34 => ⟨S8x2048x1024, .f32⟩
  | 35 => ⟨S_, .f32⟩
  | 36 => ⟨S8x2048x1, .f32⟩
  | 37 => ⟨S8x2048x1, .f32⟩
  | 38 => ⟨S8x2048x1, .f32⟩
  | 39 => ⟨S8x2048x1024, .f32⟩
  | 40 => ⟨S8x2048x1024, .f32⟩
  | 41 => ⟨S1x1x1024, .f32⟩
  | 42 => ⟨S8x2048x1024, .f32⟩
  | 43 => ⟨S8x2048x1024, .f32⟩
  | 44 => ⟨S1x1x1024, .f32⟩
  | 45 => ⟨S8x2048x1024, .f32⟩
  | 46 => ⟨S8x2048x1024, .f32⟩
  | 47 => ⟨S8x2047x1024, .f32⟩
  | 48 => ⟨S_, .i32⟩
  | 49 => ⟨S_, .f32⟩
  | 50 => ⟨S8x2048x1024, .f32⟩
  | 51 => ⟨S1x1x1024, .f32⟩
  | 52 => ⟨S8x2048x1024, .f32⟩
  | 53 => ⟨S8x2048x1024, .f32⟩
  | 54 => ⟨S_, .f32⟩
  | 55 => ⟨S1024, .f32⟩
  | 56 => ⟨S1024, .f32⟩
  | 57 => ⟨S1x1x1024, .f32⟩
  | 58 => ⟨S8x2048x1024, .f32⟩
  | 59 => ⟨S8x2048x1024, .f32⟩
  | 60 => ⟨S8x2048x1024, .f32⟩
  | 61 => ⟨S1024x1024, .f32⟩
  | 62 => ⟨S8x2048x1024, .f32⟩
  | 63 => ⟨S8x2047x1024, .f32⟩
  | 64 => ⟨S_, .i32⟩
  | 65 => ⟨S_, .f32⟩
  | 66 => ⟨S8x2048x1024, .f32⟩
  | 67 => ⟨S1x1x1024, .f32⟩
  | 68 => ⟨S8x2048x1024, .f32⟩
  | 69 => ⟨S8x2048x1024, .f32⟩
  | 70 => ⟨S_, .f32⟩
  | 71 => ⟨S1024, .f32⟩
  | 72 => ⟨S1024, .f32⟩
  | 73 => ⟨S1x1x1024, .f32⟩
  | 74 => ⟨S8x2048x1024, .f32⟩
  | 75 => ⟨S8x2048x1024, .f32⟩
  | 76 => ⟨S8x2048x1024, .f32⟩
  | 77 => ⟨S1024x1024, .f32⟩
  | 78 => ⟨S8x2048x1024, .f32⟩
  | 79 => ⟨S1024, .f32⟩
  | 80 => ⟨S1024, .f32⟩
  | 81 => ⟨S2048x8x1024, .f32⟩
  | 82 => ⟨S2048x8x1024, .f32⟩
  | 83 => ⟨S_, .f32⟩
  | 84 => ⟨S8x1024, .f32⟩
  | 85 => ⟨S_, .f32⟩
  | 86 => ⟨S8x1024, .f32⟩
  | 87 => ⟨S_, .f32⟩
  | 88 => ⟨S2048x8x1024, .f32⟩
  | 89 => ⟨S_, .i32⟩
  | 90 => ⟨S2048x8x1024, .f32⟩
  | 91 => ⟨S2048x8x1024, .f32⟩
  | 92 => ⟨S1024, .f32⟩
  | 93 => ⟨S1024, .f32⟩
  | 94 => ⟨S_, .i32⟩
  | 95 => ⟨S8x1024, .f32⟩
  | 96 => ⟨S8x1024, .f32⟩
  | 97 => ⟨S8x1024, .f32⟩
  | 98 => ⟨S2048x8x1024, .f32⟩
  | 99 => ⟨S_, .i32⟩
  | 100 => ⟨S_, .i1⟩
  | 101 => ⟨S_, .i32⟩
  | 102 => ⟨S_, .i32⟩
  | 103 => ⟨S1x8x1024, .f32⟩
  | 104 => ⟨S8x1024, .f32⟩
  | 105 => ⟨S_, .i32⟩
  | 106 => ⟨S_, .i32⟩
  | 107 => ⟨S1x8x1024, .f32⟩
  | 108 => ⟨S8x1024, .f32⟩
  | 109 => ⟨S1x1024, .f32⟩
  | 110 => ⟨S8x1024, .f32⟩
  | 111 => ⟨S8x1024, .f32⟩
  | 112 => ⟨S8x1024, .f32⟩
  | 113 => ⟨S8x1024, .f32⟩
  | 114 => ⟨S8x1024, .f32⟩
  | 115 => ⟨S8x1024, .f32⟩
  | 116 => ⟨S8x1024, .f32⟩
  | 117 => ⟨S8x1024, .f32⟩
  | 118 => ⟨S8x1024, .f32⟩
  | 119 => ⟨S8x1024, .f32⟩
  | 120 => ⟨S8x1024, .f32⟩
  | 121 => ⟨S8x1024, .f32⟩
  | 122 => ⟨S1x1024, .f32⟩
  | 123 => ⟨S8x1024, .f32⟩
  | 124 => ⟨S8x1024, .f32⟩
  | 125 => ⟨S8x1024, .f32⟩
  | 126 => ⟨S8x1024, .f32⟩
  | 127 => ⟨S8x1024, .f32⟩
  | _ => ⟨S8x2048x1024, .f32⟩

abbrev hbmTy0_1 (i : Nat) : BufTy := match i % 128 with
  | 0 => ⟨S8x1024, .f32⟩
  | 1 => ⟨S8x1024, .f32⟩
  | 2 => ⟨S8x1024, .f32⟩
  | 3 => ⟨S8x1024, .f32⟩
  | 4 => ⟨S8x1024, .f32⟩
  | 5 => ⟨S8x1024, .f32⟩
  | 6 => ⟨S8x1024, .f32⟩
  | 7 => ⟨S8x1024, .f32⟩
  | 8 => ⟨S1x8x1024, .f32⟩
  | 9 => ⟨S_, .i32⟩
  | 10 => ⟨S_, .i32⟩
  | 11 => ⟨S2048x8x1024, .f32⟩
  | 12 => ⟨S_, .i32⟩
  | 13 => ⟨S_, .i32⟩
  | 14 => ⟨S8x2048x1024, .f32⟩
  | 15 => ⟨S8x1024x1, .f32⟩
  | 16 => ⟨S8x1024x1, .f32⟩
  | 17 => ⟨S8x1024x1, .f32⟩
  | 18 => ⟨S8x1024x3, .f32⟩
  | 19 => ⟨S_, .f32⟩
  | 20 => ⟨S8x2048, .f32⟩
  | 21 => ⟨S8x2048x1, .f32⟩
  | 22 => ⟨S_, .f32⟩
  | 23 => ⟨S8x2048x1, .f32⟩
  | 24 => ⟨S8x2048x1, .f32⟩
  | 25 => ⟨S8x2048x1024, .f32⟩
  | 26 => ⟨S8x2048x1024, .f32⟩
  | 27 => ⟨S8x2048x1024, .f32⟩
  | 28 => ⟨S_, .f32⟩
  | 29 => ⟨S8x2048, .f32⟩
  | 30 => ⟨S8x2048x1, .f32⟩
  | 31 => ⟨S_, .f32⟩
  | 32 => ⟨S8x2048x1, .f32⟩
  | 33 => ⟨S8x2048x1, .f32⟩
  | 34 => ⟨S8x2048x1024, .f32⟩
  | 35 => ⟨S8x2048x1024, .f32⟩
  | 36 => ⟨S_, .f32⟩
  | 37 => ⟨S8x2048x1, .f32⟩
  | 38 => ⟨S8x2048x1, .f32⟩
  | 39 => ⟨S8x2048x1, .f32⟩
  | 40 => ⟨S8x2048x1024, .f32⟩
  | 41 => ⟨S8x2048x1024, .f32⟩
  | 42 => ⟨S1x1x1024, .f32⟩
  | 43 => ⟨S8x2048x1024, .f32⟩
  | 44 => ⟨S8x2048x1024, .f32⟩
  | 45 => ⟨S1x1x1024, .f32⟩
  | 46 => ⟨S8x2048x1024, .f32⟩
  | 47 => ⟨S8x2048x1024, .f32⟩
  | 48 => ⟨S8x2047x1024, .f32⟩
  | 49 => ⟨S_, .i32⟩
  | 50 => ⟨S_, .f32⟩
  | 51 => ⟨S8x2048x1024, .f32⟩
  | 52 => ⟨S1x1x1024, .f32⟩
  | 53 => ⟨S8x2048x1024, .f32⟩
  | 54 => ⟨S8x2048x1024, .f32⟩
  | 55 => ⟨S_, .f32⟩
  | 56 => ⟨S1024, .f32⟩
  | 57 => ⟨S1024, .f32⟩
  | 58 => ⟨S1x1x1024, .f32⟩
  | 59 => ⟨S8x2048x1024, .f32⟩
  | 60 => ⟨S8x2048x1024, .f32⟩
  | 61 => ⟨S8x2048x1024, .f32⟩
  | 62 => ⟨S1024x1024, .f32⟩
  | 63 => ⟨S8x2048x1024, .f32⟩
  | 64 => ⟨S8x2048x1024, .f32⟩
  | 65 => ⟨S8x2048x1024, .f32⟩
  | 66 => ⟨S_, .f32⟩
  | 67 => ⟨S8x2048x1024, .f32⟩
  | 68 => ⟨S8x2048x1024, .f32⟩
  | 69 => ⟨S_, .f32⟩
  | 70 => ⟨S8x2048x1024, .f32⟩
  | 71 => ⟨S8x2048x1024, .f32⟩
  | 72 => ⟨S8x2048x1024, .f32⟩
  | 73 => ⟨S8x2048x1024, .f32⟩
  | 74 => ⟨S_, .f32⟩
  | 75 => ⟨S8x2048, .f32⟩
  | 76 => ⟨S8x2048x1, .f32⟩
  | 77 => ⟨S_, .f32⟩
  | 78 => ⟨S8x2048x1, .f32⟩
  | 79 => ⟨S8x2048x1, .f32⟩
  | 80 => ⟨S8x2048x1024, .f32⟩
  | 81 => ⟨S8x2048x1024, .f32⟩
  | 82 => ⟨S8x2048x1024, .f32⟩
  | 83 => ⟨S_, .f32⟩
  | 84 => ⟨S8x2048, .f32⟩
  | 85 => ⟨S8x2048x1, .f32⟩
  | 86 => ⟨S_, .f32⟩
  | 87 => ⟨S8x2048x1, .f32⟩
  | 88 => ⟨S8x2048x1, .f32⟩
  | 89 => ⟨S8x2048x1024, .f32⟩
  | 90 => ⟨S8x2048x1024, .f32⟩
  | 91 => ⟨S_, .f32⟩
  | 92 => ⟨S8x2048x1, .f32⟩
  | 93 => ⟨S8x2048x1, .f32⟩
  | 94 => ⟨S8x2048x1, .f32⟩
  | 95 => ⟨S8x2048x1024, .f32⟩
  | 96 => ⟨S8x2048x1024, .f32⟩
  | 97 => ⟨S1x1x1024, .f32⟩
  | 98 => ⟨S8x2048x1024, .f32⟩
  | 99 => ⟨S8x2048x1024, .f32⟩
  | 100 => ⟨S1x1x1024, .f32⟩
  | 101 => ⟨S8x2048x1024, .f32⟩
  | 102 => ⟨S8x2048x1024, .f32⟩
  | 103 => ⟨S8x2047x1024, .f32⟩
  | 104 => ⟨S_, .i32⟩
  | 105 => ⟨S_, .f32⟩
  | 106 => ⟨S8x2048x1024, .f32⟩
  | 107 => ⟨S1x1x1024, .f32⟩
  | 108 => ⟨S8x2048x1024, .f32⟩
  | 109 => ⟨S8x2048x1024, .f32⟩
  | 110 => ⟨S_, .f32⟩
  | 111 => ⟨S1024, .f32⟩
  | 112 => ⟨S1024, .f32⟩
  | 113 => ⟨S1x1x1024, .f32⟩
  | 114 => ⟨S8x2048x1024, .f32⟩
  | 115 => ⟨S8x2048x1024, .f32⟩
  | 116 => ⟨S8x2048x1024, .f32⟩
  | 117 => ⟨S1024x4096, .f32⟩
  | 118 => ⟨S8x2048x4096, .f32⟩
  | 119 => ⟨S8x2047x1024, .f32⟩
  | 120 => ⟨S_, .i32⟩
  | 121 => ⟨S_, .f32⟩
  | 122 => ⟨S8x2048x1024, .f32⟩
  | 123 => ⟨S1x1x1024, .f32⟩
  | 124 => ⟨S8x2048x1024, .f32⟩
  | 125 => ⟨S8x2048x1024, .f32⟩
  | 126 => ⟨S_, .f32⟩
  | 127 => ⟨S1024, .f32⟩
  | _ => ⟨S8x2048x1024, .f32⟩

abbrev hbmTy0_2 (i : Nat) : BufTy := match i % 128 with
  | 0 => ⟨S1024, .f32⟩
  | 1 => ⟨S1x1x1024, .f32⟩
  | 2 => ⟨S8x2048x1024, .f32⟩
  | 3 => ⟨S8x2048x1024, .f32⟩
  | 4 => ⟨S8x2048x1024, .f32⟩
  | 5 => ⟨S1024x1024, .f32⟩
  | 6 => ⟨S8x2048x1024, .f32⟩
  | 7 => ⟨S8x2048x1024, .f32⟩
  | 8 => ⟨S8x2048x1024, .f32⟩
  | 9 => ⟨S_, .f32⟩
  | 10 => ⟨S8x2048x1024, .f32⟩
  | 11 => ⟨S8x2048x1024, .f32⟩
  | 12 => ⟨S_, .f32⟩
  | 13 => ⟨S8x2048x1024, .f32⟩
  | 14 => ⟨S8x2048x1024, .f32⟩
  | 15 => ⟨S_, .f32⟩
  | 16 => ⟨S8x2048x4096, .f32⟩
  | 17 => ⟨S8x2048x4096, .f32⟩
  | 18 => ⟨S8x2048x4096, .f32⟩
  | 19 => ⟨S4096x1024, .f32⟩
  | 20 => ⟨S8x2048x1024, .f32⟩
  | 21 => ⟨S8x2048x1024, .f32⟩
  | 22 => ⟨S8x2048x1024, .f32⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_cst_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_1 : Ref sig .tc := ⟨.hbm, 27, rfl⟩
abbrev main_v7 : Ref sig .tc := ⟨.hbm, 28, rfl⟩
abbrev main_v8 : Ref sig .tc := ⟨.hbm, 29, rfl⟩
abbrev main_cst_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_3 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c : Ref sig .tc := ⟨.hbm, 48, rfl⟩
abbrev main_call0_v0 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_4 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_5 : Ref sig .tc := ⟨.hbm, 64, rfl⟩
abbrev main_call1_v0 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_6 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_7 : Ref sig .tc := ⟨.hbm, 83, rfl⟩
abbrev main_v54 : Ref sig .tc := ⟨.hbm, 84, rfl⟩
abbrev main_cst_8 : Ref sig .tc := ⟨.hbm, 85, rfl⟩
abbrev main_v55 : Ref sig .tc := ⟨.hbm, 86, rfl⟩
abbrev main_cst_9 : Ref sig .tc := ⟨.hbm, 87, rfl⟩
abbrev main_v56 : Ref sig .tc := ⟨.hbm, 88, rfl⟩
abbrev main_c_10 : Ref sig .tc := ⟨.hbm, 89, rfl⟩
abbrev main_v57_0 : Ref sig .tc := ⟨.hbm, 90, rfl⟩
abbrev main_v57_1 : Ref sig .tc := ⟨.hbm, 91, rfl⟩
abbrev main_v57_2 : Ref sig .tc := ⟨.hbm, 92, rfl⟩
abbrev main_v57_3 : Ref sig .tc := ⟨.hbm, 93, rfl⟩
abbrev main_v57_4 : Ref sig .tc := ⟨.hbm, 94, rfl⟩
abbrev main_v57_5 : Ref sig .tc := ⟨.hbm, 95, rfl⟩
abbrev main_v57_6 : Ref sig .tc := ⟨.hbm, 96, rfl⟩
abbrev main_v57_7 : Ref sig .tc := ⟨.hbm, 97, rfl⟩
abbrev main_v57_8 : Ref sig .tc := ⟨.hbm, 98, rfl⟩
abbrev main_while0c_c_39 : Ref sig .tc := ⟨.hbm, 99, rfl⟩
abbrev main_while0c_v170 : Ref sig .tc := ⟨.hbm, 100, rfl⟩
abbrev main_while0b_call2_c : Ref sig .tc := ⟨.hbm, 101, rfl⟩
abbrev main_while0b_call2_c_0 : Ref sig .tc := ⟨.hbm, 102, rfl⟩
abbrev main_while0b_call2_v0 : Ref sig .tc := ⟨.hbm, 103, rfl⟩
abbrev main_while0b_v170 : Ref sig .tc := ⟨.hbm, 104, rfl⟩
abbrev main_while0b_call3_c : Ref sig .tc := ⟨.hbm, 105, rfl⟩
abbrev main_while0b_call3_c_0 : Ref sig .tc := ⟨.hbm, 106, rfl⟩
abbrev main_while0b_call3_v0 : Ref sig .tc := ⟨.hbm, 107, rfl⟩
abbrev main_while0b_v171 : Ref sig .tc := ⟨.hbm, 108, rfl⟩
abbrev main_while0b_v172 : Ref sig .tc := ⟨.hbm, 109, rfl⟩
abbrev main_while0b_v173 : Ref sig .tc := ⟨.hbm, 110, rfl⟩
abbrev main_while0b_v174 : Ref sig .tc := ⟨.hbm, 111, rfl⟩
abbrev main_while0b_v175 : Ref sig .tc := ⟨.hbm, 112, rfl⟩
abbrev main_while0b_v176 : Ref sig .tc := ⟨.hbm, 113, rfl⟩
abbrev main_while0b_v177 : Ref sig .tc := ⟨.hbm, 114, rfl⟩
abbrev main_while0b_v178 : Ref sig .tc := ⟨.hbm, 115, rfl⟩
abbrev main_while0b_v179 : Ref sig .tc := ⟨.hbm, 116, rfl⟩
abbrev main_while0b_v180 : Ref sig .tc := ⟨.hbm, 117, rfl⟩
abbrev main_while0b_v181 : Ref sig .tc := ⟨.hbm, 118, rfl⟩
abbrev main_while0b_v182 : Ref sig .tc := ⟨.hbm, 119, rfl⟩
abbrev main_while0b_v183 : Ref sig .tc := ⟨.hbm, 120, rfl⟩
abbrev main_while0b_v184 : Ref sig .tc := ⟨.hbm, 121, rfl⟩
abbrev main_while0b_v185 : Ref sig .tc := ⟨.hbm, 122, rfl⟩
abbrev main_while0b_v186 : Ref sig .tc := ⟨.hbm, 123, rfl⟩
abbrev main_while0b_v187 : Ref sig .tc := ⟨.hbm, 124, rfl⟩
abbrev main_while0b_v188 : Ref sig .tc := ⟨.hbm, 125, rfl⟩
abbrev main_while0b_v189 : Ref sig .tc := ⟨.hbm, 126, rfl⟩
abbrev main_while0b_v190 : Ref sig .tc := ⟨.hbm, 127, rfl⟩
abbrev main_while0b_v191 : Ref sig .tc := ⟨.hbm, 128, rfl⟩
abbrev main_while0b_v192 : Ref sig .tc := ⟨.hbm, 129, rfl⟩
abbrev main_while0b_v193 : Ref sig .tc := ⟨.hbm, 130, rfl⟩
abbrev main_while0b_v194 : Ref sig .tc := ⟨.hbm, 131, rfl⟩
abbrev main_while0b_v195 : Ref sig .tc := ⟨.hbm, 132, rfl⟩
abbrev main_while0b_v196 : Ref sig .tc := ⟨.hbm, 133, rfl⟩
abbrev main_while0b_v197 : Ref sig .tc := ⟨.hbm, 134, rfl⟩
abbrev main_while0b_v198 : Ref sig .tc := ⟨.hbm, 135, rfl⟩
abbrev main_while0b_call4_v0 : Ref sig .tc := ⟨.hbm, 136, rfl⟩
abbrev main_while0b_call4_c : Ref sig .tc := ⟨.hbm, 137, rfl⟩
abbrev main_while0b_call4_c_0 : Ref sig .tc := ⟨.hbm, 138, rfl⟩
abbrev main_while0b_v199 : Ref sig .tc := ⟨.hbm, 139, rfl⟩
abbrev main_while0b_c_39 : Ref sig .tc := ⟨.hbm, 140, rfl⟩
abbrev main_while0b_v200 : Ref sig .tc := ⟨.hbm, 141, rfl⟩
abbrev main_v58 : Ref sig .tc := ⟨.hbm, 142, rfl⟩
abbrev main_v59 : Ref sig .tc := ⟨.hbm, 143, rfl⟩
abbrev main_v60 : Ref sig .tc := ⟨.hbm, 144, rfl⟩
abbrev main_v61 : Ref sig .tc := ⟨.hbm, 145, rfl⟩
abbrev main_v62 : Ref sig .tc := ⟨.hbm, 146, rfl⟩
abbrev main_cst_11 : Ref sig .tc := ⟨.hbm, 147, rfl⟩
abbrev main_v63 : Ref sig .tc := ⟨.hbm, 148, rfl⟩
abbrev main_v64 : Ref sig .tc := ⟨.hbm, 149, rfl⟩
abbrev main_cst_12 : Ref sig .tc := ⟨.hbm, 150, rfl⟩
abbrev main_v65 : Ref sig .tc := ⟨.hbm, 151, rfl⟩
abbrev main_v66 : Ref sig .tc := ⟨.hbm, 152, rfl⟩
abbrev main_v67 : Ref sig .tc := ⟨.hbm, 153, rfl⟩
abbrev main_v68 : Ref sig .tc := ⟨.hbm, 154, rfl⟩
abbrev main_v69 : Ref sig .tc := ⟨.hbm, 155, rfl⟩
abbrev main_cst_13 : Ref sig .tc := ⟨.hbm, 156, rfl⟩
abbrev main_v70 : Ref sig .tc := ⟨.hbm, 157, rfl⟩
abbrev main_v71 : Ref sig .tc := ⟨.hbm, 158, rfl⟩
abbrev main_cst_14 : Ref sig .tc := ⟨.hbm, 159, rfl⟩
abbrev main_v72 : Ref sig .tc := ⟨.hbm, 160, rfl⟩
abbrev main_v73 : Ref sig .tc := ⟨.hbm, 161, rfl⟩
abbrev main_v74 : Ref sig .tc := ⟨.hbm, 162, rfl⟩
abbrev main_v75 : Ref sig .tc := ⟨.hbm, 163, rfl⟩
abbrev main_cst_15 : Ref sig .tc := ⟨.hbm, 164, rfl⟩
abbrev main_v76 : Ref sig .tc := ⟨.hbm, 165, rfl⟩
abbrev main_v77 : Ref sig .tc := ⟨.hbm, 166, rfl⟩
abbrev main_v78 : Ref sig .tc := ⟨.hbm, 167, rfl⟩
abbrev main_v79 : Ref sig .tc := ⟨.hbm, 168, rfl⟩
abbrev main_v80 : Ref sig .tc := ⟨.hbm, 169, rfl⟩
abbrev main_v81 : Ref sig .tc := ⟨.hbm, 170, rfl⟩
abbrev main_v82 : Ref sig .tc := ⟨.hbm, 171, rfl⟩
abbrev main_v83 : Ref sig .tc := ⟨.hbm, 172, rfl⟩
abbrev main_v84 : Ref sig .tc := ⟨.hbm, 173, rfl⟩
abbrev main_v85 : Ref sig .tc := ⟨.hbm, 174, rfl⟩
abbrev main_v86 : Ref sig .tc := ⟨.hbm, 175, rfl⟩
abbrev main_v87 : Ref sig .tc := ⟨.hbm, 176, rfl⟩
abbrev main_c_16 : Ref sig .tc := ⟨.hbm, 177, rfl⟩
abbrev main_call5_v0 : Ref sig .tc := ⟨.hbm, 178, rfl⟩
abbrev main_v88 : Ref sig .tc := ⟨.hbm, 179, rfl⟩
abbrev main_v89 : Ref sig .tc := ⟨.hbm, 180, rfl⟩
abbrev main_v90 : Ref sig .tc := ⟨.hbm, 181, rfl⟩
abbrev main_v91 : Ref sig .tc := ⟨.hbm, 182, rfl⟩
abbrev main_cst_17 : Ref sig .tc := ⟨.hbm, 183, rfl⟩
abbrev main_v92 : Ref sig .tc := ⟨.hbm, 184, rfl⟩
abbrev main_v93 : Ref sig .tc := ⟨.hbm, 185, rfl⟩
abbrev main_v94 : Ref sig .tc := ⟨.hbm, 186, rfl⟩
abbrev main_v95 : Ref sig .tc := ⟨.hbm, 187, rfl⟩
abbrev main_v96 : Ref sig .tc := ⟨.hbm, 188, rfl⟩
abbrev main_v97 : Ref sig .tc := ⟨.hbm, 189, rfl⟩
abbrev main_v98 : Ref sig .tc := ⟨.hbm, 190, rfl⟩
abbrev main_v99 : Ref sig .tc := ⟨.hbm, 191, rfl⟩
abbrev main_v100 : Ref sig .tc := ⟨.hbm, 192, rfl⟩
abbrev main_v101 : Ref sig .tc := ⟨.hbm, 193, rfl⟩
abbrev main_cst_18 : Ref sig .tc := ⟨.hbm, 194, rfl⟩
abbrev main_v102 : Ref sig .tc := ⟨.hbm, 195, rfl⟩
abbrev main_v103 : Ref sig .tc := ⟨.hbm, 196, rfl⟩
abbrev main_cst_19 : Ref sig .tc := ⟨.hbm, 197, rfl⟩
abbrev main_v104 : Ref sig .tc := ⟨.hbm, 198, rfl⟩
abbrev main_v105 : Ref sig .tc := ⟨.hbm, 199, rfl⟩
abbrev main_v106 : Ref sig .tc := ⟨.hbm, 200, rfl⟩
abbrev main_v107 : Ref sig .tc := ⟨.hbm, 201, rfl⟩
abbrev main_cst_20 : Ref sig .tc := ⟨.hbm, 202, rfl⟩
abbrev main_v108 : Ref sig .tc := ⟨.hbm, 203, rfl⟩
abbrev main_v109 : Ref sig .tc := ⟨.hbm, 204, rfl⟩
abbrev main_cst_21 : Ref sig .tc := ⟨.hbm, 205, rfl⟩
abbrev main_v110 : Ref sig .tc := ⟨.hbm, 206, rfl⟩
abbrev main_v111 : Ref sig .tc := ⟨.hbm, 207, rfl⟩
abbrev main_v112 : Ref sig .tc := ⟨.hbm, 208, rfl⟩
abbrev main_v113 : Ref sig .tc := ⟨.hbm, 209, rfl⟩
abbrev main_v114 : Ref sig .tc := ⟨.hbm, 210, rfl⟩
abbrev main_cst_22 : Ref sig .tc := ⟨.hbm, 211, rfl⟩
abbrev main_v115 : Ref sig .tc := ⟨.hbm, 212, rfl⟩
abbrev main_v116 : Ref sig .tc := ⟨.hbm, 213, rfl⟩
abbrev main_cst_23 : Ref sig .tc := ⟨.hbm, 214, rfl⟩
abbrev main_v117 : Ref sig .tc := ⟨.hbm, 215, rfl⟩
abbrev main_v118 : Ref sig .tc := ⟨.hbm, 216, rfl⟩
abbrev main_v119 : Ref sig .tc := ⟨.hbm, 217, rfl⟩
abbrev main_v120 : Ref sig .tc := ⟨.hbm, 218, rfl⟩
abbrev main_cst_24 : Ref sig .tc := ⟨.hbm, 219, rfl⟩
abbrev main_v121 : Ref sig .tc := ⟨.hbm, 220, rfl⟩
abbrev main_v122 : Ref sig .tc := ⟨.hbm, 221, rfl⟩
abbrev main_v123 : Ref sig .tc := ⟨.hbm, 222, rfl⟩
abbrev main_v124 : Ref sig .tc := ⟨.hbm, 223, rfl⟩
abbrev main_v125 : Ref sig .tc := ⟨.hbm, 224, rfl⟩
abbrev main_v126 : Ref sig .tc := ⟨.hbm, 225, rfl⟩
abbrev main_v127 : Ref sig .tc := ⟨.hbm, 226, rfl⟩
abbrev main_v128 : Ref sig .tc := ⟨.hbm, 227, rfl⟩
abbrev main_v129 : Ref sig .tc := ⟨.hbm, 228, rfl⟩
abbrev main_v130 : Ref sig .tc := ⟨.hbm, 229, rfl⟩
abbrev main_v131 : Ref sig .tc := ⟨.hbm, 230, rfl⟩
abbrev main_v132 : Ref sig .tc := ⟨.hbm, 231, rfl⟩
abbrev main_c_25 : Ref sig .tc := ⟨.hbm, 232, rfl⟩
abbrev main_call6_v0 : Ref sig .tc := ⟨.hbm, 233, rfl⟩
abbrev main_v133 : Ref sig .tc := ⟨.hbm, 234, rfl⟩
abbrev main_v134 : Ref sig .tc := ⟨.hbm, 235, rfl⟩
abbrev main_v135 : Ref sig .tc := ⟨.hbm, 236, rfl⟩
abbrev main_v136 : Ref sig .tc := ⟨.hbm, 237, rfl⟩
abbrev main_cst_26 : Ref sig .tc := ⟨.hbm, 238, rfl⟩
abbrev main_v137 : Ref sig .tc := ⟨.hbm, 239, rfl⟩
abbrev main_v138 : Ref sig .tc := ⟨.hbm, 240, rfl⟩
abbrev main_v139 : Ref sig .tc := ⟨.hbm, 241, rfl⟩
abbrev main_v140 : Ref sig .tc := ⟨.hbm, 242, rfl⟩
abbrev main_v141 : Ref sig .tc := ⟨.hbm, 243, rfl⟩
abbrev main_v142 : Ref sig .tc := ⟨.hbm, 244, rfl⟩
abbrev main_v143 : Ref sig .tc := ⟨.hbm, 245, rfl⟩
abbrev main_v144 : Ref sig .tc := ⟨.hbm, 246, rfl⟩
abbrev main_v145 : Ref sig .tc := ⟨.hbm, 247, rfl⟩
abbrev main_c_27 : Ref sig .tc := ⟨.hbm, 248, rfl⟩
abbrev main_call7_v0 : Ref sig .tc := ⟨.hbm, 249, rfl⟩
abbrev main_v146 : Ref sig .tc := ⟨.hbm, 250, rfl⟩
abbrev main_v147 : Ref sig .tc := ⟨.hbm, 251, rfl⟩
abbrev main_v148 : Ref sig .tc := ⟨.hbm, 252, rfl⟩
abbrev main_v149 : Ref sig .tc := ⟨.hbm, 253, rfl⟩
abbrev main_cst_28 : Ref sig .tc := ⟨.hbm, 254, rfl⟩
abbrev main_v150 : Ref sig .tc := ⟨.hbm, 255, rfl⟩
abbrev main_v151 : Ref sig .tc := ⟨.hbm, 256, rfl⟩
abbrev main_v152 : Ref sig .tc := ⟨.hbm, 257, rfl⟩
abbrev main_v153 : Ref sig .tc := ⟨.hbm, 258, rfl⟩
abbrev main_v154 : Ref sig .tc := ⟨.hbm, 259, rfl⟩
abbrev main_v155 : Ref sig .tc := ⟨.hbm, 260, rfl⟩
abbrev main_v156 : Ref sig .tc := ⟨.hbm, 261, rfl⟩
abbrev main_v157 : Ref sig .tc := ⟨.hbm, 262, rfl⟩
abbrev main_v158 : Ref sig .tc := ⟨.hbm, 263, rfl⟩
abbrev main_v159 : Ref sig .tc := ⟨.hbm, 264, rfl⟩
abbrev main_cst_29 : Ref sig .tc := ⟨.hbm, 265, rfl⟩
abbrev main_v160 : Ref sig .tc := ⟨.hbm, 266, rfl⟩
abbrev main_v161 : Ref sig .tc := ⟨.hbm, 267, rfl⟩
abbrev main_cst_30 : Ref sig .tc := ⟨.hbm, 268, rfl⟩
abbrev main_v162 : Ref sig .tc := ⟨.hbm, 269, rfl⟩
abbrev main_v163 : Ref sig .tc := ⟨.hbm, 270, rfl⟩
abbrev main_call8_cst : Ref sig .tc := ⟨.hbm, 271, rfl⟩
abbrev main_call8_v0 : Ref sig .tc := ⟨.hbm, 272, rfl⟩
abbrev main_v164 : Ref sig .tc := ⟨.hbm, 273, rfl⟩
abbrev main_v165 : Ref sig .tc := ⟨.hbm, 274, rfl⟩
abbrev main_v166 : Ref sig .tc := ⟨.hbm, 275, rfl⟩
abbrev main_v167 : Ref sig .tc := ⟨.hbm, 276, rfl⟩
abbrev main_v168 : Ref sig .tc := ⟨.hbm, 277, rfl⟩
abbrev main_v169 : Ref sig .tc := ⟨.hbm, 278, rfl⟩

abbrev nD : Nat := 1
abbrev τ : Topo := Topo.v7x

variable {F : FTy → Type} [FloatOps F]

abbrev main_while0_count : Scf.Loop 32 := ⟨0#32, 2048#32, 1#32⟩
-- ==== Proof.RefStep.lean ====
/- The reference's loop as one step iterated: the text of the generated step module with the last carried value's
   equation closed directly. -/
module

public import proofs.«01_k».proof.Proof.Gen.ReferenceIdeal.Run
public import proofs.«01_k».proof.Proof.Gen.ReferenceIdeal.Step

@[expose] public section

noncomputable section

namespace Cert.ReferenceIdeal.Hand

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_5 : V0 (Proc.devRef .tc main_v57_5) = s.main_v57_5
  f_6 : V0 (Proc.devRef .tc main_v57_6) = s.main_v57_6
  f_7 : V0 (Proc.devRef .tc main_v57_7) = s.main_v57_7
  f_8 : V0 (Proc.devRef .tc main_v57_8) = s.main_v57_8
  f_0 : V0 (Proc.devRef .tc main_v57_0) = s.main_v57_0
  f_1 : V0 (Proc.devRef .tc main_v57_1) = s.main_v57_1
  f_2 : V0 (Proc.devRef .tc main_v57_2) = s.main_v57_2
  f_3 : V0 (Proc.devRef .tc main_v57_3) = s.main_v57_3
  n_4 : V0 (Proc.devRef .tc main_v57_4) = constantI S_ 32 (BitVec.ofNat 32 j)

variable {V0 s j}

set_option maxRecDepth 8192 in
/-- Value 0 of a trip, from the buffers the trip finds. -/
theorem al_0 (h : Holds V0 s j) : (constantI S_ 32 0#32 : (Proc.devRef .tc main_while0b_call2_c : DevRef τ sig).ty.Contents (Elt F)) = Cert.ReferenceIdeal.Step.b0 j s := by
  unfold Cert.ReferenceIdeal.Step.b0
  rfl
set_option maxRecDepth 8192 in
/-- Value 1 of a trip, from the buffers the trip finds. -/
theorem al_1 (h : Holds V0 s j) : (constantI S_ 32 0#32 : (Proc.devRef .tc main_while0b_call2_c_0 : DevRef τ sig).ty.Contents (Elt F)) = Cert.ReferenceIdeal.Step.b1 j s := by
  unfold Cert.ReferenceIdeal.Step.b1
  rfl
set_option maxRecDepth 8192 in
/-- Value 2 of a trip, from the buffers the trip finds. -/
theorem al_2 (h : Holds V0 s j) : (Host.dynamicSlice S1x8x1024 (V0 (Proc.devRef .tc main_v57_0)) (fun k => (((![V0 (Proc.devRef .tc main_v57_4), constantI S_ 32 0#32, constantI S_ 32 0#32] : Fin 3 → (⟨S_, .i32⟩ : BufTy).Contents (Elt F))) k (Shape.Idx.first h_S_)).toInt) sliceFits_S2048x8x1024_S1x8x1024 : (Proc.devRef .tc main_while0b_call2_v0 : DevRef τ sig).ty.Contents (Elt F)) = Cert.ReferenceIdeal.Step.b2 j s := by
  unfold Cert.ReferenceIdeal.Step.b2
  rw [← al_0 h, ← al_1 h, h.f_0, h.n_4]
  try rfl
set_option maxRecDepth 8192 in
/-- Value 3 of a trip, from the buffers the trip finds. -/
theorem al_3 (h : Holds V0 s j) : (res_main_while0b_v170 V0 : (Proc.devRef .tc main_while0b_v170 : DevRef τ sig).ty.Contents (Elt F)) = Cert.ReferenceIdeal.Step.b3 j s := by
  unfold res_main_while0b_v170 Cert.ReferenceIdeal.Step.b3
  rw [← al_2 h]
  try rfl
set_option maxRecDepth 8192 in
/-- Value 4 of a trip, from the buffers the trip finds. -/
theorem al_4 (h : Holds V0 s j) : (constantI S_ 32 0#32 : (Proc.devRef .tc main_while0b_call3_c : DevRef τ sig).ty.Contents (Elt F)) = Cert.ReferenceIdeal.Step.b4 j s := by
  unfold Cert.ReferenceIdeal.Step.b4
  rfl
set_option maxRecDepth 8192 in
/-- Value 5 of a trip, from the buffers the trip finds. -/
theorem al_5 (h : Holds V0 s j) : (constantI S_ 32 0#32 : (Proc.devRef .tc main_while0b_call3_c_0 : DevRef τ sig).ty.Contents (Elt F)) = Cert.ReferenceIdeal.Step.b5 j s := by
  unfold Cert.ReferenceIdeal.Step.b5
  rfl
set_option maxRecDepth 8192 in
/-- Value 6 of a trip, from the buffers the trip finds. -/
theorem al_6 (h : Holds V0 s j) : (Host.dynamicSlice S1x8x1024 (V0 (Proc.devRef .tc main_v57_1)) (fun k => (((![V0 (Proc.devRef .tc main_v57_4), constantI S_ 32 0#32, constantI S_ 32 0#32] : Fin 3 → (⟨S_, .i32⟩ : BufTy).Contents (Elt F))) k (Shape.Idx.first h_S_)).toInt) sliceFits_S2048x8x1024_S1x8x1024 : (Proc.devRef .tc main_while0b_call3_v0 : DevRef τ sig).ty.Contents (Elt F)) = Cert.ReferenceIdeal.Step.b6 j s := by
  unfold Cert.ReferenceIdeal.Step.b6
  rw [← al_4 h, ← al_5 h, h.f_1, h.n_4]
  try rfl
set_option maxRecDepth 8192 in
/-- Value 7 of a trip, from the buffers the trip finds. -/
theorem al_7 (h : Holds V0 s j) : (res_main_while0b_v171 V0 : (Proc.devRef .tc main_while0b_v171 : DevRef τ sig).ty.Contents (Elt F)) = Cert.ReferenceIdeal.Step.b7 j s := by
  unfold res_main_while0b_v171 Cert.ReferenceIdeal.Step.b7
  rw [← al_6 h]
  try rfl
set_option maxRecDepth 8192 in
/-- Value 8 of a trip, from the buffers the trip finds. -/
theorem al_8 (h : Holds V0 s j) : (broadcastInDim S1x1024 ![1] bcast_S1024_S1x1024_1 (V0 (Proc.devRef .tc main_v57_2)) : (Proc.devRef .tc main_while0b_v172 : DevRef τ sig).ty.Contents (Elt F)) = Cert.ReferenceIdeal.Step.b8 j s := by
  unfold Cert.ReferenceIdeal.Step.b8
  rw [h.f_2]
  try rfl
set_option maxRecDepth 8192 in
/-- Value 9 of a trip, from the buffers the trip finds. -/
theorem al_9 (h : Holds V0 s j) : (broadcastInDim S8x1024 ![0, 1] bcast_S1x1024_S8x1024_0_1 (broadcastInDim S1x1024 ![1] bcast_S1024_S1x1024_1 (V0 (Proc.devRef .tc main_v57_2))) : (Proc.devRef .tc main_while0b_v173 : DevRef τ sig).ty.Contents (Elt F)) = Cert.ReferenceIdeal.Step.b9 j s := by
  unfold Cert.ReferenceIdeal.Step.b9
  rw [← al_8 h]
  try rfl
set_option maxRecDepth 8192 in
/-- Value 10 of a trip, from the buffers the trip finds. -/
theorem al_10 (h : Holds V0 s j) : (res_main_while0b_v174 V0 : (Proc.devRef .tc main_while0b_v174 : DevRef τ sig).ty.Contents (Elt F)) = Cert.ReferenceIdeal.Step.b10 j s := by
  unfold res_main_while0b_v174 Cert.ReferenceIdeal.Step.b10
  rw [← al_9 h, ← al_3 h]
  try rfl
set_option maxRecDepth 8192 in
/-- Value 11 of a trip, from the buffers the trip finds. -/
theorem al_11 (h : Holds V0 s j) : (res_main_while0b_v175 V0 : (Proc.devRef .tc main_while0b_v175 : DevRef τ sig).ty.Contents (Elt F)) = Cert.ReferenceIdeal.Step.b11 j s := by
  unfold res_main_while0b_v175 Cert.ReferenceIdeal.Step.b11
  rw [← al_10 h, h.f_7]
  try rfl
set_option maxRecDepth 8192 in
/-- Value 12 of a trip, from the buffers the trip finds. -/
theorem al_12 (h : Holds V0 s j) : (subf (V0 (Proc.devRef .tc main_v57_7)) (res_main_while0b_v175 V0) : (Proc.devRef .tc main_while0b_v176 : DevRef τ sig).ty.Contents (Elt F)) = Cert.ReferenceIdeal.Step.b12 j s := by
  unfold Cert.ReferenceIdeal.Step.b12
  rw [← al_11 h, h.f_7]
  try rfl
set_option maxRecDepth 8192 in
/-- Value 13 of a trip, from the buffers the trip finds. -/
theorem al_13 (h : Holds V0 s j) : (res_main_while0b_v177 V0 : (Proc.devRef .tc main_while0b_v177 : DevRef τ sig).ty.Contents (Elt F)) = Cert.ReferenceIdeal.Step.b13 j s := by
  unfold res_main_while0b_v177 Cert.ReferenceIdeal.Step.b13
  rw [← al_12 h]
  try rfl
set_option maxRecDepth 8192 in
/-- Value 14 of a trip, from the buffers the trip finds. -/
theorem al_14 (h : Holds V0 s j) : (subf (res_main_while0b_v174 V0) (res_main_while0b_v175 V0) : (Proc.devRef .tc main_while0b_v178 : DevRef τ sig).ty.Contents (Elt F)) = Cert.ReferenceIdeal.Step.b14 j s := by
  unfold Cert.ReferenceIdeal.Step.b14
  rw [← al_10 h, ← al_11 h]
  try rfl
set_option maxRecDepth 8192 in
/-- Value 15 of a trip, from the buffers the trip finds. -/
theorem al_15 (h : Holds V0 s j) : (res_main_while0b_v179 V0 : (Proc.devRef .tc main_while0b_v179 : DevRef τ sig).ty.Contents (Elt F)) = Cert.ReferenceIdeal.Step.b15 j s := by
  unfold res_main_while0b_v179 Cert.ReferenceIdeal.Step.b15
  rw [← al_14 h]
  try rfl
set_option maxRecDepth 8192 in
/-- Value 16 of a trip, from the buffers the trip finds. -/
theorem al_16 (h : Holds V0 s j) : (mulf (res_main_while0b_v177 V0) (V0 (Proc.devRef .tc main_v57_5)) : (Proc.devRef .tc main_while0b_v180 : DevRef τ sig).ty.Contents (Elt F)) = Cert.ReferenceIdeal.Step.b16 j s := by
  unfold Cert.ReferenceIdeal.Step.b16
  rw [← al_13 h, h.f_5]
  try rfl
set_option maxRecDepth 8192 in
/-- Value 17 of a trip, from the buffers the trip finds. -/
theorem al_17 (h : Holds V0 s j) : (mulf (res_main_while0b_v179 V0) (res_main_while0b_v171 V0) : (Proc.devRef .tc main_while0b_v181 : DevRef τ sig).ty.Contents (Elt F)) = Cert.ReferenceIdeal.Step.b17 j s := by
  unfold Cert.ReferenceIdeal.Step.b17
  rw [← al_15 h, ← al_7 h]
  try rfl
set_option maxRecDepth 8192 in
/-- Value 18 of a trip, from the buffers the trip finds. -/
theorem al_18 (h : Holds V0 s j) : (addf (mulf (res_main_while0b_v177 V0) (V0 (Proc.devRef .tc main_v57_5))) (mulf (res_main_while0b_v179 V0) (res_main_while0b_v171 V0)) : (Proc.devRef .tc main_while0b_v182 : DevRef τ sig).ty.Contents (Elt F)) = Cert.ReferenceIdeal.Step.b18 j s := by
  unfold Cert.ReferenceIdeal.Step.b18
  rw [← al_16 h, ← al_17 h]
  try rfl
set_option maxRecDepth 8192 in
/-- Value 19 of a trip, from the buffers the trip finds. -/
theorem al_19 (h : Holds V0 s j) : (addf (res_main_while0b_v177 V0) (res_main_while0b_v179 V0) : (Proc.devRef .tc main_while0b_v183 : DevRef τ sig).ty.Contents (Elt F)) = Cert.ReferenceIdeal.Step.b19 j s := by
  unfold Cert.ReferenceIdeal.Step.b19
  rw [← al_13 h, ← al_15 h]
  try rfl
set_option maxRecDepth 8192 in
/-- Value 20 of a trip, from the buffers the trip finds. -/
theorem al_20 (h : Holds V0 s j) : (Host.divf (addf (mulf (res_main_while0b_v177 V0) (V0 (Proc.devRef .tc main_v57_5))) (mulf (res_main_while0b_v179 V0) (res_main_while0b_v171 V0))) (addf (res_main_while0b_v177 V0) (res_main_while0b_v179 V0)) : (Proc.devRef .tc main_while0b_v184 : DevRef τ sig).ty.Contents (Elt F)) = Cert.ReferenceIdeal.Step.b20 j s := by
  unfold Cert.ReferenceIdeal.Step.b20
  rw [← al_18 h, ← al_19 h]
  try rfl
set_option maxRecDepth 8192 in
/-- Value 21 of a trip, from the buffers the trip finds. -/
theorem al_21 (h : Holds V0 s j) : (broadcastInDim S1x1024 ![1] bcast_S1024_S1x1024_1 (V0 (Proc.devRef .tc main_v57_3)) : (Proc.devRef .tc main_while0b_v185 : DevRef τ sig).ty.Contents (Elt F)) = Cert.ReferenceIdeal.Step.b21 j s := by
  unfold Cert.ReferenceIdeal.Step.b21
  rw [h.f_3]
  try rfl
set_option maxRecDepth 8192 in
/-- Value 22 of a trip, from the buffers the trip finds. -/
theorem al_22 (h : Holds V0 s j) : (broadcastInDim S8x1024 ![0, 1] bcast_S1x1024_S8x1024_0_1 (broadcastInDim S1x1024 ![1] bcast_S1024_S1x1024_1 (V0 (Proc.devRef .tc main_v57_3))) : (Proc.devRef .tc main_while0b_v186 : DevRef τ sig).ty.Contents (Elt F)) = Cert.ReferenceIdeal.Step.b22 j s := by
  unfold Cert.ReferenceIdeal.Step.b22
  rw [← al_21 h]
  try rfl
set_option maxRecDepth 8192 in
/-- Value 23 of a trip, from the buffers the trip finds. -/
theorem al_23 (h : Holds V0 s j) : (addf (broadcastInDim S8x1024 ![0, 1] bcast_S1x1024_S8x1024_0_1 (broadcastInDim S1x1024 ![1] bcast_S1024_S1x1024_1 (V0 (Proc.devRef .tc main_v57_3)))) (V0 (Proc.devRef .tc main_v57_7)) : (Proc.devRef .tc main_while0b_v187 : DevRef τ sig).ty.Contents (Elt F)) = Cert.ReferenceIdeal.Step.b23 j s := by
  unfold Cert.ReferenceIdeal.Step.b23
  rw [← al_22 h, h.f_7]
  try rfl
set_option maxRecDepth 8192 in
/-- Value 24 of a trip, from the buffers the trip finds. -/
theorem al_24 (h : Holds V0 s j) : (res_main_while0b_v188 V0 : (Proc.devRef .tc main_while0b_v188 : DevRef τ sig).ty.Contents (Elt F)) = Cert.ReferenceIdeal.Step.b24 j s := by
  unfold res_main_while0b_v188 Cert.ReferenceIdeal.Step.b24
  rw [← al_3 h, h.f_7]
  try rfl
set_option maxRecDepth 8192 in
/-- Value 25 of a trip, from the buffers the trip finds. -/
theorem al_25 (h : Holds V0 s j) : (subf (V0 (Proc.devRef .tc main_v57_7)) (res_main_while0b_v188 V0) : (Proc.devRef .tc main_while0b_v189 : DevRef τ sig).ty.Contents (Elt F)) = Cert.ReferenceIdeal.Step.b25 j s := by
  unfold Cert.ReferenceIdeal.Step.b25
  rw [← al_24 h, h.f_7]
  try rfl
set_option maxRecDepth 8192 in
/-- Value 26 of a trip, from the buffers the trip finds. -/
theorem al_26 (h : Holds V0 s j) : (res_main_while0b_v190 V0 : (Proc.devRef .tc main_while0b_v190 : DevRef τ sig).ty.Contents (Elt F)) = Cert.ReferenceIdeal.Step.b26 j s := by
  unfold res_main_while0b_v190 Cert.ReferenceIdeal.Step.b26
  rw [← al_25 h]
  try rfl
set_option maxRecDepth 8192 in
/-- Value 27 of a trip, from the buffers the trip finds. -/
theorem al_27 (h : Holds V0 s j) : (subf (res_main_while0b_v170 V0) (res_main_while0b_v188 V0) : (Proc.devRef .tc main_while0b_v191 : DevRef τ sig).ty.Contents (Elt F)) = Cert.ReferenceIdeal.Step.b27 j s := by
  unfold Cert.ReferenceIdeal.Step.b27
  rw [← al_3 h, ← al_24 h]
  try rfl
set_option maxRecDepth 8192 in
/-- Value 28 of a trip, from the buffers the trip finds. -/
theorem al_28 (h : Holds V0 s j) : (res_main_while0b_v192 V0 : (Proc.devRef .tc main_while0b_v192 : DevRef τ sig).ty.Contents (Elt F)) = Cert.ReferenceIdeal.Step.b28 j s := by
  unfold res_main_while0b_v192 Cert.ReferenceIdeal.Step.b28
  rw [← al_27 h]
  try rfl
set_option maxRecDepth 8192 in
/-- Value 29 of a trip, from the buffers the trip finds. -/
theorem al_29 (h : Holds V0 s j) : (mulf (res_main_while0b_v190 V0) (V0 (Proc.devRef .tc main_v57_5)) : (Proc.devRef .tc main_while0b_v193 : DevRef τ sig).ty.Contents (Elt F)) = Cert.ReferenceIdeal.Step.b29 j s := by
  unfold Cert.ReferenceIdeal.Step.b29
  rw [← al_26 h, h.f_5]
  try rfl
set_option maxRecDepth 8192 in
/-- Value 30 of a trip, from the buffers the trip finds. -/
theorem al_30 (h : Holds V0 s j) : (mulf (res_main_while0b_v192 V0) (res_main_while0b_v171 V0) : (Proc.devRef .tc main_while0b_v194 : DevRef τ sig).ty.Contents (Elt F)) = Cert.ReferenceIdeal.Step.b30 j s := by
  unfold Cert.ReferenceIdeal.Step.b30
  rw [← al_28 h, ← al_7 h]
  try rfl
set_option maxRecDepth 8192 in
/-- Value 31 of a trip, from the buffers the trip finds. -/
theorem al_31 (h : Holds V0 s j) : (addf (mulf (res_main_while0b_v190 V0) (V0 (Proc.devRef .tc main_v57_5))) (mulf (res_main_while0b_v192 V0) (res_main_while0b_v171 V0)) : (Proc.devRef .tc main_while0b_v195 : DevRef τ sig).ty.Contents (Elt F)) = Cert.ReferenceIdeal.Step.b31 j s := by
  unfold Cert.ReferenceIdeal.Step.b31
  rw [← al_29 h, ← al_30 h]
  try rfl
set_option maxRecDepth 8192 in
/-- Value 32 of a trip, from the buffers the trip finds. -/
theorem al_32 (h : Holds V0 s j) : (addf (res_main_while0b_v190 V0) (res_main_while0b_v192 V0) : (Proc.devRef .tc main_while0b_v196 : DevRef τ sig).ty.Contents (Elt F)) = Cert.ReferenceIdeal.Step.b32 j s := by
  unfold Cert.ReferenceIdeal.Step.b32
  rw [← al_26 h, ← al_28 h]
  try rfl
set_option maxRecDepth 8192 in
/-- Value 33 of a trip, from the buffers the trip finds. -/
theorem al_33 (h : Holds V0 s j) : (Host.log (addf (res_main_while0b_v190 V0) (res_main_while0b_v192 V0)) : (Proc.devRef .tc main_while0b_v197 : DevRef τ sig).ty.Contents (Elt F)) = Cert.ReferenceIdeal.Step.b33 j s := by
  unfold Cert.ReferenceIdeal.Step.b33
  rw [← al_32 h]
  try rfl
set_option maxRecDepth 8192 in
/-- Value 34 of a trip, from the buffers the trip finds. -/
theorem al_34 (h : Holds V0 s j) : (addf (res_main_while0b_v188 V0) (Host.log (addf (res_main_while0b_v190 V0) (res_main_while0b_v192 V0))) : (Proc.devRef .tc main_while0b_v198 : DevRef τ sig).ty.Contents (Elt F)) = Cert.ReferenceIdeal.Step.b34 j s := by
  unfold Cert.ReferenceIdeal.Step.b34
  rw [← al_24 h, ← al_33 h]
  try rfl
set_option maxRecDepth 8192 in
/-- Value 35 of a trip, from the buffers the trip finds. -/
theorem al_35 (h : Holds V0 s j) : (broadcastInDim S1x8x1024 ![1, 2] bcast_S8x1024_S1x8x1024_1_2 (Host.divf (addf (mulf (res_main_while0b_v177 V0) (V0 (Proc.devRef .tc main_v57_5))) (mulf (res_main_while0b_v179 V0) (res_main_while0b_v171 V0))) (addf (res_main_while0b_v177 V0) (res_main_while0b_v179 V0))) : (Proc.devRef .tc main_while0b_call4_v0 : DevRef τ sig).ty.Contents (Elt F)) = Cert.ReferenceIdeal.Step.b35 j s := by
  unfold Cert.ReferenceIdeal.Step.b35
  rw [← al_20 h]
  try rfl
set_option maxRecDepth 8192 in
/-- Value 36 of a trip, from the buffers the trip finds. -/
theorem al_36 (h : Holds V0 s j) : (constantI S_ 32 0#32 : (Proc.devRef .tc main_while0b_call4_c : DevRef τ sig).ty.Contents (Elt F)) = Cert.ReferenceIdeal.Step.b36 j s := by
  unfold Cert.ReferenceIdeal.Step.b36
  rfl
set_option maxRecDepth 8192 in
/-- Value 37 of a trip, from the buffers the trip finds. -/
theorem al_37 (h : Holds V0 s j) : (constantI S_ 32 0#32 : (Proc.devRef .tc main_while0b_call4_c_0 : DevRef τ sig).ty.Contents (Elt F)) = Cert.ReferenceIdeal.Step.b37 j s := by
  unfold Cert.ReferenceIdeal.Step.b37
  rfl
set_option maxRecDepth 8192 in
/-- Value 38 of a trip, from the buffers the trip finds. -/
theorem al_38 (h : Holds V0 s j) : (Host.dynamicUpdateSlice (V0 (Proc.devRef .tc main_v57_8)) (broadcastInDim S1x8x1024 ![1, 2] bcast_S8x1024_S1x8x1024_1_2 (Host.divf (addf (mulf (res_main_while0b_v177 V0) (V0 (Proc.devRef .tc main_v57_5))) (mulf (res_main_while0b_v179 V0) (res_main_while0b_v171 V0))) (addf (res_main_while0b_v177 V0) (res_main_while0b_v179 V0)))) (fun k => (((![V0 (Proc.devRef .tc main_v57_4), constantI S_ 32 0#32, constantI S_ 32 0#32] : Fin 3 → (⟨S_, .i32⟩ : BufTy).Contents (Elt F))) k (Shape.Idx.first h_S_)).toInt) updateFits_S2048x8x1024_S1x8x1024 : (Proc.devRef .tc main_while0b_v199 : DevRef τ sig).ty.Contents (Elt F)) = Cert.ReferenceIdeal.Step.b38 j s := by
  unfold Cert.ReferenceIdeal.Step.b38
  rw [← al_35 h, ← al_36 h, ← al_37 h, h.f_8, h.n_4]
  try rfl

/-! One trip's step of the carried values is `step`, field by field; a counter steps to the next number. -/

/-- The average carried to the next trip. -/
theorem step_5 (h : Holds V0 s j) : step_main_v57_5 V0 = (step j s).main_v57_5 := by
  unfold step_main_v57_5 Cert.ReferenceIdeal.Step.step
  show id (addf (mulf (res_main_while0b_v190 V0) (V0 (Proc.devRef .tc main_v57_5))) (mulf (res_main_while0b_v192 V0) (res_main_while0b_v171 V0))) = _
  rw [al_31 h]
  try rfl
/-- The decayed log-normalizer carried to the next trip. -/
theorem step_6 (h : Holds V0 s j) : step_main_v57_6 V0 = (step j s).main_v57_6 := by
  unfold step_main_v57_6 Cert.ReferenceIdeal.Step.step
  show id (addf (broadcastInDim S8x1024 ![0, 1] bcast_S1x1024_S8x1024_0_1 (broadcastInDim S1x1024 ![1] bcast_S1024_S1x1024_1 (V0 (Proc.devRef .tc main_v57_3)))) (V0 (Proc.devRef .tc main_v57_7))) = _
  rw [al_23 h]
  try rfl
/-- The log-normalizer carried to the next trip. -/
theorem step_7 (h : Holds V0 s j) : step_main_v57_7 V0 = (step j s).main_v57_7 := by
  unfold step_main_v57_7 Cert.ReferenceIdeal.Step.step
  show id (addf (res_main_while0b_v188 V0) (Host.log (addf (res_main_while0b_v190 V0) (res_main_while0b_v192 V0)))) = _
  rw [al_34 h]
  try rfl
/-- The averages put out so far, carried to the next trip. -/
theorem step_8 (h : Holds V0 s j) : step_main_v57_8 V0 = (step j s).main_v57_8 := by
  unfold step_main_v57_8 Cert.ReferenceIdeal.Step.step
  show id (Host.dynamicUpdateSlice (V0 (Proc.devRef .tc main_v57_8)) (broadcastInDim S1x8x1024 ![1, 2] bcast_S8x1024_S1x8x1024_1_2 (Host.divf (addf (mulf (res_main_while0b_v177 V0) (V0 (Proc.devRef .tc main_v57_5))) (mulf (res_main_while0b_v179 V0) (res_main_while0b_v171 V0))) (addf (res_main_while0b_v177 V0) (res_main_while0b_v179 V0)))) (fun k => (((![V0 (Proc.devRef .tc main_v57_4), constantI S_ 32 0#32, constantI S_ 32 0#32] : Fin 3 → (⟨S_, .i32⟩ : BufTy).Contents (Elt F))) k (Shape.Idx.first h_S_)).toInt) updateFits_S2048x8x1024_S1x8x1024) = _
  exact al_38 h
/-- The trip counter carried to the next trip. -/
theorem step_4 (h : Holds V0 s j) : step_main_v57_4 V0 = constantI S_ 32 (BitVec.ofNat 32 (j + 1)) := by
  unfold step_main_v57_4
  rw [h.n_4]
  funext i
  show BitVec.ofNat 32 j + 1#32 = BitVec.ofNat 32 (j + 1)
  simp only [BitVec.ofNat_add]

set_option maxRecDepth 8192 in
/-- The first result, from the state the loop ends in. -/
theorem out_main_v169_holds (h : Holds V0 s j) {x_main_arg0 : (⟨S8x2048x1024, .f32⟩ : BufTy).Contents (Elt F)} (h_main_arg0 : V0 (Proc.devRef .tc main_arg0) = x_main_arg0) {x_main_arg5 : (⟨S1024x1024, .f32⟩ : BufTy).Contents (Elt F)} (h_main_arg5 : V0 (Proc.devRef .tc main_arg5) = x_main_arg5) {x_main_arg6 : (⟨S4096x1024, .f32⟩ : BufTy).Contents (Elt F)} (h_main_arg6 : V0 (Proc.devRef .tc main_arg6) = x_main_arg6) {x_main_arg7 : (⟨S1024x4096, .f32⟩ : BufTy).Contents (Elt F)} (h_main_arg7 : V0 (Proc.devRef .tc main_arg7) = x_main_arg7) {x_main_arg8 : (⟨S1024x1024, .f32⟩ : BufTy).Contents (Elt F)} (h_main_arg8 : V0 (Proc.devRef .tc main_arg8) = x_main_arg8) {x_main_arg9 : (⟨S1024, .f32⟩ : BufTy).Contents (Elt F)} (h_main_arg9 : V0 (Proc.devRef .tc main_arg9) = x_main_arg9) {x_main_arg10 : (⟨S1024, .f32⟩ : BufTy).Contents (Elt F)} (h_main_arg10 : V0 (Proc.devRef .tc main_arg10) = x_main_arg10) {x_main_arg11 : (⟨S1024, .f32⟩ : BufTy).Contents (Elt F)} (h_main_arg11 : V0 (Proc.devRef .tc main_arg11) = x_main_arg11) {x_main_arg12 : (⟨S1024, .f32⟩ : BufTy).Contents (Elt F)} (h_main_arg12 : V0 (Proc.devRef .tc main_arg12) = x_main_arg12) {x_main_arg15 : (⟨S1024, .f32⟩ : BufTy).Contents (Elt F)} (h_main_arg15 : V0 (Proc.devRef .tc main_arg15) = x_main_arg15) {x_main_arg16 : (⟨S1024, .f32⟩ : BufTy).Contents (Elt F)} (h_main_arg16 : V0 (Proc.devRef .tc main_arg16) = x_main_arg16) {x_main_arg17 : (⟨S1024, .f32⟩ : BufTy).Contents (Elt F)} (h_main_arg17 : V0 (Proc.devRef .tc main_arg17) = x_main_arg17) : out_main_v169 V0 = Cert.ReferenceIdeal.Step.R_main_v169 s x_main_arg0 x_main_arg5 x_main_arg6 x_main_arg7 x_main_arg8 x_main_arg9 x_main_arg10 x_main_arg11 x_main_arg12 x_main_arg15 x_main_arg16 x_main_arg17 := by
  unfold out_main_v169 Cert.ReferenceIdeal.Step.R_main_v169
  rw [h.f_8, h_main_arg0, h_main_arg5, h_main_arg6, h_main_arg7, h_main_arg8, h_main_arg9, h_main_arg10, h_main_arg11, h_main_arg12, h_main_arg15, h_main_arg16, h_main_arg17]
  try rfl

set_option maxRecDepth 8192 in
/-- The second result, from the state the loop ends in. -/
theorem out_main_v62_holds (h : Holds V0 s j) : out_main_v62 V0 = Cert.ReferenceIdeal.Step.R_main_v62 s := by
  unfold out_main_v62 Cert.ReferenceIdeal.Step.R_main_v62
  rw [h.f_5, h.f_6, h.f_7]
  try rfl

/-- One trip keeps the valuation holding: `step` of the state, the same set-up values, the next number. -/
theorem holds_step (h : Holds V0 s j) : Holds (STEP V0) (step j s) (j + 1) where
  f_5 := (STEP_main_v57_5 V0).trans (step_5 h)
  f_6 := (STEP_main_v57_6 V0).trans (step_6 h)
  f_7 := (STEP_main_v57_7 V0).trans (step_7 h)
  f_8 := (STEP_main_v57_8 V0).trans (step_8 h)
  n_4 := (STEP_main_v57_4 V0).trans (step_4 h)
  f_0 := (STEP_main_v57_0 V0).trans h.f_0
  f_1 := (STEP_main_v57_1 V0).trans h.f_1
  f_2 := (STEP_main_v57_2 V0).trans h.f_2
  f_3 := (STEP_main_v57_3 V0).trans h.f_3

/-- The state the first trip starts from, of the memory the run starts from. -/
abbrev initState (m : (ℓ : Loc nD τ sig) → Buf (Elt F) ℓ) (c : Dev nD) : State F :=
  init (m ((c.tc : Thread nD τ).loc main_arg2)) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg9)) (m ((c.tc : Thread nD τ).loc main_arg10)) (m ((c.tc : Thread nD τ).loc main_arg13)) (m ((c.tc : Thread nD τ).loc main_arg14))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 2048 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v169) = Cert.ReferenceIdeal.Step.R_main_v169 (it c 2048) (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg15)) (m ((c.tc : Thread nD τ).loc main_arg16)) (m ((c.tc : Thread nD τ).loc main_arg17))
      ∧ r.2.mem ((c.tc : Thread nD τ).loc main_v62) = Cert.ReferenceIdeal.Step.R_main_v62 (it c 2048)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c =>
    have hk := holds_iter m c (it c) (h0 c) (hs c) 2048
    ⟨(h c).1.trans (out_main_v169_holds hk (iter_main_arg0 m c 2048) (iter_main_arg5 m c 2048) (iter_main_arg6 m c 2048) (iter_main_arg7 m c 2048) (iter_main_arg8 m c 2048) (iter_main_arg9 m c 2048) (iter_main_arg10 m c 2048) (iter_main_arg11 m c 2048) (iter_main_arg12 m c 2048) (iter_main_arg15 m c 2048) (iter_main_arg16 m c 2048) (iter_main_arg17 m c 2048)), (h c).2.1.trans (out_main_v62_holds hk), (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2.1, (h c).2.2.2.2.2.2.2.2.2.2.2.2.2.2.2.2.2.2.1, (h c).2.2.2.2.2.2.2.2.2.2.2.2.2.2.2.2.2.2.2⟩) (Value.run m ρ)

end Cert.ReferenceIdeal.Hand

end
-- ==== Proof.RefRun.lean ====
/- The reference's run: its arguments end unchanged, its results are those of the loop's last state. -/
module

public import proofs.«01_k».proof.Proof.RefStep
public import Idealize.ShloMosaic.Init
public import Idealize.ShloMosaic.Adequacy

@[expose] public section

noncomputable section

namespace Cert.ReferenceIdeal.Hand

open Idealize.ShloMosaic Idealize.ShloMosaic.TcCoe Idealize.SL.Sem
open Cert.ReferenceIdeal Cert.ReferenceIdeal.Gen
open Cert.ReferenceIdeal.Step (State step init)

variable {F : FTy → Type} [FloatOps F]

/-- The states the loop goes through. -/
def states (m : (ℓ : Loc nD τ sig) → Buf (Elt F) ℓ) (c : Dev nD) : ℕ → State F
  | 0 => initState m c
  | n + 1 => step n (states m c n)

/-- The reference ends with its arguments unchanged and its counters at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run (defs (F := F)) _ _).mono
    (fun r h => ⟨fun c => (h c).2.2, Idealize.ShloMosaic.sem_eq_zero_of_no_sems (by decide) r.2⟩)
    (run_iter m ρ (states m) (fun _ => rfl) (fun _ _ => rfl))

end Cert.ReferenceIdeal.Hand

end
-- ==== Proof.TmRunIdeal.lean ====
/- The time-mix body run once, at a first chunk and at a later one: the stores it makes into its output, its state block and its scratch. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.WholeRead
public import Idealize.ShloMosaic.Lib.Pipeline.Value
public import Idealize.ShloMosaic.Lib.Tactic.Stretches
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At the first chunk of a batch row the kernel's test of the chunk number reads true. -/
theorem at_first {i : grid0.Coords} (hi : (i 1).val = 0) :
    Scalar.cmpi .ne (Scalar.extui (Scalar.cmpi .eq (BitVec.ofNat 32 (i 1).val) 0#32) : BitVec 32) 0#32 = 1#1 := by
  rw [hi]; decide

/-- At a later chunk it reads false. -/
theorem not_first {i : grid0.Coords} (hi : (i 1).val ≠ 0) :
    ¬ Scalar.cmpi .ne (Scalar.extui (Scalar.cmpi .eq (BitVec.ofNat 32 (i 1).val) 0#32) : BitVec 32) 0#32 = 1#1 := by
  have h : ∀ n : Fin 8, n.val ≠ 0 →
      ¬ Scalar.cmpi .ne (Scalar.extui (Scalar.cmpi .eq (BitVec.ofNat 32 n.val) 0#32) : BitVec 32) 0#32 = 1#1 := by decide
  exact h (i 1) hi

set_option maxHeartbeats 4000000 in
/-- The body at a later chunk: it reads the carried scratch `xs`. -/
def tmRunB (c : Dev nD) (i : grid0.Coords) (arg2 : Memref sig .tc .vmem S2x256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S2x256x1024 .f32) (harg10 : arg10.IsWhole) (arg11 : Memref sig .tc .vmem S2x3x1024 .f32) (harg11 : arg11.IsWhole) (arg12 : Memref sig .tc .vmem S2x8x1024 .f32) (harg12 : arg12.IsWhole)
    (x0 : Vec F S2x256x1024 .f32) (x1 : Vec F S1x1024 .f32) (x2 : Vec F S1x1024 .f32) (x3 : Vec F S1x1024 .f32) (x4 : Vec F S1x1024 .f32) (x5 : Vec F S1024x1024 .bf16) (x6 : Vec F S1024x1024 .bf16) (x7 : Vec F S1024x1024 .bf16) (xs : Vec F S2x8x1024 .f32) (hi : (i 1).val ≠ 0) :
    Σ' (L8 : List (View.Piece (Elt F) S2x256x1024 .f32)) (L9 : List (View.Piece (Elt F) S2x3x1024 .f32)), { LS : List (View.Piece (Elt F) S2x8x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (arg12.view.loc (c : Thread nD τ) ↦[arg12.view.set]{fullShare} arg12.view.writes (Elt F) (harg12.unread xs) LS)) -∗ K ⟨⟩))
          ⊢ wp frame (wpE (defs₀ (F := F)) Variants.none c none) E (cc0__time_mix_kernel i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__time_mix_kernel_eq_skeleton]; unfold cc0__time_mix_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg12.eq_unread hf12
    have hc := not_first hi
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    iexact H12
set_option maxHeartbeats 4000000 in
/-- The body at a first chunk: it fills the carried rows first, so `xs` is not read. -/
def tmRunA (c : Dev nD) (i : grid0.Coords) (arg2 : Memref sig .tc .vmem S2x256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S2x256x1024 .f32) (harg10 : arg10.IsWhole) (arg11 : Memref sig .tc .vmem S2x3x1024 .f32) (harg11 : arg11.IsWhole) (arg12 : Memref sig .tc .vmem S2x8x1024 .f32) (harg12 : arg12.IsWhole)
    (x0 : Vec F S2x256x1024 .f32) (x1 : Vec F S1x1024 .f32) (x2 : Vec F S1x1024 .f32) (x3 : Vec F S1x1024 .f32) (x4 : Vec F S1x1024 .f32) (x5 : Vec F S1024x1024 .bf16) (x6 : Vec F S1024x1024 .bf16) (x7 : Vec F S1024x1024 .bf16) (xs : Vec F S2x8x1024 .f32) (hi : (i 1).val = 0) :
    Σ' (L8 : List (View.Piece (Elt F) S2x256x1024 .f32)) (L9 : List (View.Piece (Elt F) S2x3x1024 .f32)), { LS : List (View.Piece (Elt F) S2x8x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (arg12.view.loc (c : Thread nD τ) ↦[arg12.view.set]{fullShare} arg12.view.writes (Elt F) (harg12.unread xs) LS)) -∗ K ⟨⟩))
          ⊢ wp frame (wpE (defs₀ (F := F)) Variants.none c none) E (cc0__time_mix_kernel i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__time_mix_kernel_eq_skeleton]; unfold cc0__time_mix_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg12.eq_unread hf12
    have hc := at_first hi
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    iexact H12

end Cert.KernelIdeal.Hand

end
-- ==== Proof.TmRowIdeal.lean ====
/- One batch row of a chunk as functions of what the time-mix body loads. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.WholeRead
public import Idealize.ShloMosaic.Lib.Pipeline.Value
public import Idealize.ShloMosaic.Lib.Tactic.Stretches
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One batch row of a chunk, as functions of what the body loads -/

section Row

variable (xb : Vec F S1x256x1024 .f32) (lg lb td tf : Vec F S1x1024 .f32) (wk wv wr : Vec F S1024x1024 .bf16)
variable (m z a : Vec F S1x1x1024 .f32)

/-- The keys of the chunk. -/
abbrev rowK : FVec F S256x1024 .f32 := k0_pay8 xb lg lb wk
/-- The values of the chunk. -/
abbrev rowV : FVec F S256x1024 .f32 := k0_pay10 (k0_pay7 xb lg lb) (k0_pay9 wv) (constant S256x1024 .f32 0x00000000#32)
/-- The gates of the chunk. -/
abbrev rowR : FVec F S256x1024 .f32 := k0_pay11 (k0_pay7 xb lg lb) wr
/-- The row's output. -/
abbrev rowY : FVec F S1x256x1024 .f32 :=
  k0_pay24 (k0_pay6 xb) (rowK xb lg lb wk) (rowV xb lg lb wv) (rowR xb lg lb wr) (k0_pay14 a) (k0_pay18 (F := F))
    (k0_pay20 (rowK xb lg lb wk) m z) (k0_pay21 (rowK xb lg lb wk) m z) (k0_pay22 (rowK xb lg lb wk) m z) tf
/-- The new shift. -/
abbrev rowM : FVec F S1x1x1024 .f32 := k0_pay27 (k0_pay15 (rowK xb lg lb wk) m)
/-- The new normaliser. -/
abbrev rowZ : FVec F S1x1x1024 .f32 := k0_pay28 (k0_pay13 z) (k0_pay16 (rowK xb lg lb wk) m) (k0_pay17 (rowK xb lg lb wk) m)
/-- The new accumulator, flat. -/
abbrev rowAcc : FVec F S1x1024 .f32 :=
  k0_pay26 (rowK xb lg lb wk) (rowV xb lg lb wv) (k0_pay14 a)
    (k0_pay20 (rowK xb lg lb wk) m z) (k0_pay21 (rowK xb lg lb wk) m z) (k0_pay22 (rowK xb lg lb wk) m z)
/-- The new accumulator. -/
abbrev rowA : FVec F S1x1x1024 .f32 := k0_pay29 (rowAcc xb lg lb wk wv m z a)
/-- The three rows of the state block. -/
abbrev rowS0 : FVec F S1x1x1024 .f32 := k0_pay30 (rowAcc xb lg lb wk wv m z a)
/-- The decayed log-normalizer that a row's chunk stores. -/
abbrev rowS1 : FVec F S1x1x1024 .f32 := k0_pay31 (k0_pay15 (rowK xb lg lb wk) m) (k0_pay19 (rowK xb lg lb wk) m z) td
/-- The log-normalizer that a row's chunk stores. -/
abbrev rowS2 : FVec F S1x1x1024 .f32 :=
  k0_pay32 (k0_pay15 (rowK xb lg lb wk) m) (k0_pay25 (k0_pay13 z) (k0_pay16 (rowK xb lg lb wk) m) (k0_pay17 (rowK xb lg lb wk) m))

end Row

/-! ## The second row's program is the first row's -/

/-- The second row's output is the row function's, at its own block and carry. -/
theorem row1_Y (xb : Vec F S1x256x1024 .f32) (lg lb td tf : Vec F S1x1024 .f32) (wk wv wr : Vec F S1024x1024 .bf16) (m z a : Vec F S1x1x1024 .f32) :
    k0_pay55 (k0_pay33 xb) (k0_pay54 (k0_pay38 (k0_pay33 xb) (k0_pay34 xb) (k0_pay35 xb) (k0_pay36 (F := F)) lg lb wk) (k0_pay39 (k0_pay33 xb) (k0_pay34 xb) (k0_pay35 xb) (k0_pay36 (F := F)) lg lb wv) (k0_pay40 (k0_pay33 xb) (k0_pay34 xb) (k0_pay35 xb) (k0_pay36 (F := F)) lg lb wr) (k0_pay41 m) (k0_pay42 z) (k0_pay43 a) (k0_pay44 (k0_pay33 xb) (k0_pay34 xb) (k0_pay35 xb) (k0_pay36 (F := F)) lg lb wk) tf) = rowY xb lg lb tf wk wv wr m z a := by
  sl_open_pay
  rfl

/-- The second row's new maximum is the row function's. -/
theorem row1_M (xb : Vec F S1x256x1024 .f32) (lg lb td tf : Vec F S1x1024 .f32) (wk wv wr : Vec F S1024x1024 .bf16) (m z a : Vec F S1x1x1024 .f32) :
    k0_pay58 (k0_pay45 (k0_pay41 m) (k0_pay44 (k0_pay33 xb) (k0_pay34 xb) (k0_pay35 xb) (k0_pay36 (F := F)) lg lb wk)) = rowM xb lg lb wk m := by
  sl_open_pay
  rfl

/-- The second row's new sum is the row function's. -/
theorem row1_Z (xb : Vec F S1x256x1024 .f32) (lg lb td tf : Vec F S1x1024 .f32) (wk wv wr : Vec F S1024x1024 .bf16) (m z a : Vec F S1x1x1024 .f32) :
    k0_pay59 (k0_pay42 z) (k0_pay46 (k0_pay41 m) (k0_pay44 (k0_pay33 xb) (k0_pay34 xb) (k0_pay35 xb) (k0_pay36 (F := F)) lg lb wk)) (k0_pay47 (k0_pay38 (k0_pay33 xb) (k0_pay34 xb) (k0_pay35 xb) (k0_pay36 (F := F)) lg lb wk) (k0_pay41 m) (k0_pay44 (k0_pay33 xb) (k0_pay34 xb) (k0_pay35 xb) (k0_pay36 (F := F)) lg lb wk)) = rowZ xb lg lb wk m z := by
  sl_open_pay
  rfl

/-- The second row's new average is the row function's. -/
theorem row1_A (xb : Vec F S1x256x1024 .f32) (lg lb td tf : Vec F S1x1024 .f32) (wk wv wr : Vec F S1024x1024 .bf16) (m z a : Vec F S1x1x1024 .f32) :
    k0_pay60 (k0_pay43 a) (k0_pay51 (k0_pay38 (k0_pay33 xb) (k0_pay34 xb) (k0_pay35 xb) (k0_pay36 (F := F)) lg lb wk) (k0_pay41 m) (k0_pay42 z) (k0_pay44 (k0_pay33 xb) (k0_pay34 xb) (k0_pay35 xb) (k0_pay36 (F := F)) lg lb wk)) (k0_pay53 (k0_pay38 (k0_pay33 xb) (k0_pay34 xb) (k0_pay35 xb) (k0_pay36 (F := F)) lg lb wk) (k0_pay39 (k0_pay33 xb) (k0_pay34 xb) (k0_pay35 xb) (k0_pay36 (F := F)) lg lb wv) (k0_pay41 m) (k0_pay42 z) (k0_pay44 (k0_pay33 xb) (k0_pay34 xb) (k0_pay35 xb) (k0_pay36 (F := F)) lg lb wk)) = rowA xb lg lb wk wv m z a := by
  sl_open_pay
  rfl

/-- The second row's stored average is the row function's. -/
theorem row1_S0 (xb : Vec F S1x256x1024 .f32) (lg lb td tf : Vec F S1x1024 .f32) (wk wv wr : Vec F S1024x1024 .bf16) (m z a : Vec F S1x1x1024 .f32) :
    k0_pay1 (k0_pay57 (k0_pay43 a) (k0_pay51 (k0_pay38 (k0_pay33 xb) (k0_pay34 xb) (k0_pay35 xb) (k0_pay36 (F := F)) lg lb wk) (k0_pay41 m) (k0_pay42 z) (k0_pay44 (k0_pay33 xb) (k0_pay34 xb) (k0_pay35 xb) (k0_pay36 (F := F)) lg lb wk)) (k0_pay53 (k0_pay38 (k0_pay33 xb) (k0_pay34 xb) (k0_pay35 xb) (k0_pay36 (F := F)) lg lb wk) (k0_pay39 (k0_pay33 xb) (k0_pay34 xb) (k0_pay35 xb) (k0_pay36 (F := F)) lg lb wv) (k0_pay41 m) (k0_pay42 z) (k0_pay44 (k0_pay33 xb) (k0_pay34 xb) (k0_pay35 xb) (k0_pay36 (F := F)) lg lb wk))) = rowS0 xb lg lb wk wv m z a := by
  sl_open_pay
  rfl

/-- The second row's stored decayed log-normalizer is the row function's. -/
theorem row1_S1 (xb : Vec F S1x256x1024 .f32) (lg lb td tf : Vec F S1x1024 .f32) (wk wv wr : Vec F S1024x1024 .bf16) (m z a : Vec F S1x1x1024 .f32) :
    k0_pay2 (k0_pay62 (k0_pay45 (k0_pay41 m) (k0_pay44 (k0_pay33 xb) (k0_pay34 xb) (k0_pay35 xb) (k0_pay36 (F := F)) lg lb wk)) (k0_pay49 (k0_pay38 (k0_pay33 xb) (k0_pay34 xb) (k0_pay35 xb) (k0_pay36 (F := F)) lg lb wk) (k0_pay41 m) (k0_pay42 z) (k0_pay44 (k0_pay33 xb) (k0_pay34 xb) (k0_pay35 xb) (k0_pay36 (F := F)) lg lb wk)) td) = rowS1 xb lg lb td wk m z := by
  sl_open_pay
  rfl

/-- The second row's stored log-normalizer is the row function's. -/
theorem row1_S2 (xb : Vec F S1x256x1024 .f32) (lg lb td tf : Vec F S1x1024 .f32) (wk wv wr : Vec F S1024x1024 .bf16) (m z a : Vec F S1x1x1024 .f32) :
    k0_pay3 (k0_pay61 (k0_pay42 z) (k0_pay45 (k0_pay41 m) (k0_pay44 (k0_pay33 xb) (k0_pay34 xb) (k0_pay35 xb) (k0_pay36 (F := F)) lg lb wk)) (k0_pay46 (k0_pay41 m) (k0_pay44 (k0_pay33 xb) (k0_pay34 xb) (k0_pay35 xb) (k0_pay36 (F := F)) lg lb wk)) (k0_pay47 (k0_pay38 (k0_pay33 xb) (k0_pay34 xb) (k0_pay35 xb) (k0_pay36 (F := F)) lg lb wk) (k0_pay41 m) (k0_pay44 (k0_pay33 xb) (k0_pay34 xb) (k0_pay35 xb) (k0_pay36 (F := F)) lg lb wk))) = rowS2 xb lg lb wk m z := by
  sl_open_pay
  rfl

end Cert.KernelIdeal.Hand

end
-- ==== Proof.TmBodyIdeal.lean ====
/- The time-mix body's stores as explicit functions of its blocks and of the carried rows. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.TmRunIdeal
public import proofs.«01_k».proof.Proof.TmRowIdeal
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.WholeRead
public import Idealize.ShloMosaic.Lib.Pipeline.Value
public import Idealize.ShloMosaic.Lib.Tactic.Stretches
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a batch block carries from chunk to chunk: shift, normaliser and accumulator of its two rows. -/
@[ext] structure Carry (F : FTy → Type) where
  m0 : Vec F S1x1x1024 .f32
  z0 : Vec F S1x1x1024 .f32
  a0 : Vec F S1x1x1024 .f32
  m1 : Vec F S1x1x1024 .f32
  z1 : Vec F S1x1x1024 .f32
  a1 : Vec F S1x1x1024 .f32

/-- Row 0's running maximum in the scratch. -/
abbrev rM0 : Rect S2x8x1024 := Rect.unit (s := S2x8x1024) ![0, 0, 0] ![1, 1, 1024] inb_S2x8x1024_S1x1x1024_0_0_0
/-- Row 0's running sum in the scratch. -/
abbrev rZ0 : Rect S2x8x1024 := Rect.unit (s := S2x8x1024) ![0, 1, 0] ![1, 1, 1024] inb_S2x8x1024_S1x1x1024_0_1_0
/-- Row 0's running average in the scratch. -/
abbrev rA0 : Rect S2x8x1024 := Rect.unit (s := S2x8x1024) ![0, 2, 0] ![1, 1, 1024] inb_S2x8x1024_S1x1x1024_0_2_0
/-- Row 1's running maximum in the scratch. -/
abbrev rM1 : Rect S2x8x1024 := Rect.unit (s := S2x8x1024) ![1, 0, 0] ![1, 1, 1024] inb_S2x8x1024_S1x1x1024_1_0_0
/-- Row 1's running sum in the scratch. -/
abbrev rZ1 : Rect S2x8x1024 := Rect.unit (s := S2x8x1024) ![1, 1, 0] ![1, 1, 1024] inb_S2x8x1024_S1x1x1024_1_1_0
/-- Row 1's running average in the scratch. -/
abbrev rA1 : Rect S2x8x1024 := Rect.unit (s := S2x8x1024) ![1, 2, 0] ![1, 1, 1024] inb_S2x8x1024_S1x1x1024_1_2_0

/-- The carried rows of a scratch's contents. -/
def rows (xs : Vec F S2x8x1024 .f32) : Carry F :=
  ⟨View.ld xs rM0, View.ld xs rZ0, View.ld xs rA0, View.ld xs rM1, View.ld xs rZ1, View.ld xs rA1⟩

/-- The two stores that begin a batch block, last first. -/
def initPcs : List (View.Piece (Elt F) S2x8x1024 .f32) :=
  [⟨Rect.unit (s := S2x8x1024) ![0, 1, 0] ![2, 2, 1024] inb_S2x8x1024_S2x2x1024_0_1_0, k0_pay5 (F := F)⟩,
   ⟨Rect.unit (s := S2x8x1024) ![0, 0, 0] ![2, 1, 1024] inb_S2x8x1024_S2x1x1024_0_0_0, k0_pay4 (F := F)⟩]

/-- The rows a batch block begins with. -/
def initCarry : Carry F := rows (View.canon initPcs)

section Block

variable (x0 : Vec F S2x256x1024 .f32) (x1 : Vec F S1x1024 .f32) (x2 : Vec F S1x1024 .f32) (x3 : Vec F S1x1024 .f32) (x4 : Vec F S1x1024 .f32) (x5 : Vec F S1024x1024 .bf16) (x6 : Vec F S1024x1024 .bf16) (x7 : Vec F S1024x1024 .bf16)

/-- The two rows of the input block. -/
abbrev xb0 (x0 : Vec F S2x256x1024 .f32) : Vec F S1x256x1024 .f32 :=
  View.ld x0 (Rect.unit (s := S2x256x1024) ![0, 0, 0] ![1, 256, 1024] inb_S2x256x1024_S1x256x1024_0_0_0)
/-- The second of the block's two batch rows. -/
abbrev xb1 (x0 : Vec F S2x256x1024 .f32) : Vec F S1x256x1024 .f32 :=
  View.ld x0 (Rect.unit (s := S2x256x1024) ![1, 0, 0] ![1, 256, 1024] inb_S2x256x1024_S1x256x1024_1_0_0)

/-- The rows the body leaves for the next chunk. -/
def nextCarry (x0 : Vec F S2x256x1024 .f32) (x1 x2 x3 x4 : Vec F S1x1024 .f32) (x5 x6 x7 : Vec F S1024x1024 .bf16) (k : Carry F) : Carry F :=
  ⟨rowM (xb0 x0) x1 x2 x5 k.m0, rowZ (xb0 x0) x1 x2 x5 k.m0 k.z0, rowA (xb0 x0) x1 x2 x5 x6 k.m0 k.z0 k.a0,
   rowM (xb1 x0) x1 x2 x5 k.m1, rowZ (xb1 x0) x1 x2 x5 k.m1 k.z1, rowA (xb1 x0) x1 x2 x5 x6 k.m1 k.z1 k.a1⟩

/-- The stores into the output block, last first. -/
def pcsY (x0 : Vec F S2x256x1024 .f32) (x1 x2 x3 x4 : Vec F S1x1024 .f32) (x5 x6 x7 : Vec F S1024x1024 .bf16) (k : Carry F) :
    List (View.Piece (Elt F) S2x256x1024 .f32) :=
  [⟨Rect.unit (s := S2x256x1024) ![1, 0, 0] ![1, 256, 1024] inb_S2x256x1024_S1x256x1024_1_0_0, rowY (xb1 x0) x1 x2 x4 x5 x6 x7 k.m1 k.z1 k.a1⟩,
   ⟨Rect.unit (s := S2x256x1024) ![0, 0, 0] ![1, 256, 1024] inb_S2x256x1024_S1x256x1024_0_0_0, rowY (xb0 x0) x1 x2 x4 x5 x6 x7 k.m0 k.z0 k.a0⟩]

/-- The stores into the state block, last first. -/
def pcsS (x0 : Vec F S2x256x1024 .f32) (x1 x2 x3 x4 : Vec F S1x1024 .f32) (x5 x6 x7 : Vec F S1024x1024 .bf16) (k : Carry F) :
    List (View.Piece (Elt F) S2x3x1024 .f32) :=
  [⟨Rect.unit (s := S2x3x1024) ![1, 2, 0] ![1, 1, 1024] inb_S2x3x1024_S1x1x1024_1_2_0, rowS2 (xb1 x0) x1 x2 x5 k.m1 k.z1⟩,
   ⟨Rect.unit (s := S2x3x1024) ![1, 1, 0] ![1, 1, 1024] inb_S2x3x1024_S1x1x1024_1_1_0, rowS1 (xb1 x0) x1 x2 x3 x5 k.m1 k.z1⟩,
   ⟨Rect.unit (s := S2x3x1024) ![1, 0, 0] ![1, 1, 1024] inb_S2x3x1024_S1x1x1024_1_0_0, rowS0 (xb1 x0) x1 x2 x5 x6 k.m1 k.z1 k.a1⟩,
   ⟨Rect.unit (s := S2x3x1024) ![0, 2, 0] ![1, 1, 1024] inb_S2x3x1024_S1x1x1024_0_2_0, rowS2 (xb0 x0) x1 x2 x5 k.m0 k.z0⟩,
   ⟨Rect.unit (s := S2x3x1024) ![0, 1, 0] ![1, 1, 1024] inb_S2x3x1024_S1x1x1024_0_1_0, rowS1 (xb0 x0) x1 x2 x3 x5 k.m0 k.z0⟩,
   ⟨Rect.unit (s := S2x3x1024) ![0, 0, 0] ![1, 1, 1024] inb_S2x3x1024_S1x1x1024_0_0_0, rowS0 (xb0 x0) x1 x2 x5 x6 k.m0 k.z0 k.a0⟩]

/-- The stores of row 0 into the carried scratch, last first. -/
def pcsC0 (x0 : Vec F S2x256x1024 .f32) (x1 x2 x3 x4 : Vec F S1x1024 .f32) (x5 x6 x7 : Vec F S1024x1024 .bf16) (k : Carry F) :
    List (View.Piece (Elt F) S2x8x1024 .f32) :=
  [⟨rA0, (nextCarry x0 x1 x2 x3 x4 x5 x6 x7 k).a0⟩, ⟨rZ0, (nextCarry x0 x1 x2 x3 x4 x5 x6 x7 k).z0⟩, ⟨rM0, (nextCarry x0 x1 x2 x3 x4 x5 x6 x7 k).m0⟩]

/-- The stores of both rows into the carried scratch, last first. -/
def pcsC (x0 : Vec F S2x256x1024 .f32) (x1 x2 x3 x4 : Vec F S1x1024 .f32) (x5 x6 x7 : Vec F S1024x1024 .bf16) (k : Carry F) :
    List (View.Piece (Elt F) S2x8x1024 .f32) :=
  ⟨rA1, (nextCarry x0 x1 x2 x3 x4 x5 x6 x7 k).a1⟩ :: ⟨rZ1, (nextCarry x0 x1 x2 x3 x4 x5 x6 x7 k).z1⟩ :: ⟨rM1, (nextCarry x0 x1 x2 x3 x4 x5 x6 x7 k).m1⟩ :: pcsC0 x0 x1 x2 x3 x4 x5 x6 x7 k

end Block

/-- A load from a whole buffer that reads `X` reads `X` through the load's rectangle. -/
theorem readAt_ld {sp : Space} {s : Shape} {e : EltTy} {mm : Memref sig .tc sp s e} (h : mm.IsWhole) (X : s.Idx → Elt F e) (r : Rect s) :
    View.readAt (Elt F) mm.view r.toLoadRect (h.unread X) = View.ld X r :=
  funext fun x => h.readAt_unread X r.toLoadRect x

/-- Two zero offsets are the zero offset. -/
theorem zero2 : (![0, 0] : Fin 2 → ℕ) = fun _ => 0 := by decide

/-- Loading a whole channel row reads it. -/
theorem ld_vec {e : EltTy} (X : Vec F S1x1024 e) (h : ∀ a, (![0, 0] : Fin 2 → ℕ) a + (![1, 1024] : Fin 2 → ℕ) a ≤ S1x1024.size a) :
    View.ld X (Rect.unit (s := S1x1024) ![0, 0] ![1, 1024] h) = X := View.ld_unit_zero (S := S1x1024) zero2 h X

/-- Loading a whole weight reads it. -/
theorem ld_mat {e : EltTy} (X : Vec F S1024x1024 e) (h : ∀ a, (![0, 0] : Fin 2 → ℕ) a + (![1024, 1024] : Fin 2 → ℕ) a ≤ S1024x1024.size a) :
    View.ld X (Rect.unit (s := S1024x1024) ![0, 0] ![1024, 1024] h) = X := View.ld_unit_zero (S := S1024x1024) zero2 h X

/-- A load after recorded stores reads what the stores leave. -/
theorem readCov_ld {sp : Space} {s : Shape} {e : EltTy} (mm : Memref sig .tc sp s e) (L : List (View.Piece (Elt F) s e)) (r : Rect s) :
    mm.view.readCov L r.toLoadRect = View.ld (View.canon L) r := View.readCov_eq_canon' mm.view L r.toLoadRect

/-- A load of row 1 passes over a store into row 0. -/
theorem ld_skip {a b : ℕ} (hb : ∀ x, (![0, b, 0] : Fin 3 → ℕ) x + (![1, 1, 1024] : Fin 3 → ℕ) x ≤ S2x8x1024.size x)
    (ha : ∀ x, (![1, a, 0] : Fin 3 → ℕ) x + (![1, 1, 1024] : Fin 3 → ℕ) x ≤ S2x8x1024.size x)
    (w : (Rect.unit (s := S2x8x1024) ![0, b, 0] ![1, 1, 1024] hb).shape.Idx → Elt F .f32) (L : List (View.Piece (Elt F) S2x8x1024 .f32)) :
    View.ld (View.canon (⟨Rect.unit (s := S2x8x1024) ![0, b, 0] ![1, 1, 1024] hb, w⟩ :: L)) (Rect.unit (s := S2x8x1024) ![1, a, 0] ![1, 1, 1024] ha)
      = View.ld (View.canon L) (Rect.unit (s := S2x8x1024) ![1, a, 0] ![1, 1, 1024] ha) := by
  funext x
  refine View.canon_cons_of_not_mem _ _ fun h => ?_
  have := ((Rect.mem_set_unit (inb := hb)).mp h 0).2
  simp at this

set_option backward.isDefEq.respectTransparency.types false in
/-- Its stores, Y. -/
theorem tmRunB_Y (c : Dev nD) (i : grid0.Coords) (arg2 : Memref sig .tc .vmem S2x256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S2x256x1024 .f32) (harg10 : arg10.IsWhole) (arg11 : Memref sig .tc .vmem S2x3x1024 .f32) (harg11 : arg11.IsWhole) (arg12 : Memref sig .tc .vmem S2x8x1024 .f32) (harg12 : arg12.IsWhole)
    (x0 : Vec F S2x256x1024 .f32) (x1 : Vec F S1x1024 .f32) (x2 : Vec F S1x1024 .f32) (x3 : Vec F S1x1024 .f32) (x4 : Vec F S1x1024 .f32) (x5 : Vec F S1024x1024 .bf16) (x6 : Vec F S1024x1024 .bf16) (x7 : Vec F S1024x1024 .bf16) (xs : Vec F S2x8x1024 .f32) (hi : (i 1).val ≠ 0) :
    (tmRunB c i arg2 harg2 arg3 harg3 arg4 harg4 arg5 harg5 arg6 harg6 arg7 harg7 arg8 harg8 arg9 harg9 arg10 harg10 arg11 harg11 arg12 harg12 x0 x1 x2 x3 x4 x5 x6 x7 xs hi).1 = pcsY x0 x1 x2 x3 x4 x5 x6 x7 (rows xs) := by
  unfold tmRunB; dsimp only
  sl_open_run
  simp only [readAt_ld, ld_vec, ld_mat, readCov_ld, ld_skip]
  refine congrArg₂ List.cons (congrArg (Sigma.mk _) (row1_Y (xb1 x0) x1 x2 x3 x4 x5 x6 x7 (rows xs).m1 (rows xs).z1 (rows xs).a1)) ?_
  rfl

set_option backward.isDefEq.respectTransparency.types false in
/-- Its stores, S. -/
theorem tmRunB_S (c : Dev nD) (i : grid0.Coords) (arg2 : Memref sig .tc .vmem S2x256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S2x256x1024 .f32) (harg10 : arg10.IsWhole) (arg11 : Memref sig .tc .vmem S2x3x1024 .f32) (harg11 : arg11.IsWhole) (arg12 : Memref sig .tc .vmem S2x8x1024 .f32) (harg12 : arg12.IsWhole)
    (x0 : Vec F S2x256x1024 .f32) (x1 : Vec F S1x1024 .f32) (x2 : Vec F S1x1024 .f32) (x3 : Vec F S1x1024 .f32) (x4 : Vec F S1x1024 .f32) (x5 : Vec F S1024x1024 .bf16) (x6 : Vec F S1024x1024 .bf16) (x7 : Vec F S1024x1024 .bf16) (xs : Vec F S2x8x1024 .f32) (hi : (i 1).val ≠ 0) :
    (tmRunB c i arg2 harg2 arg3 harg3 arg4 harg4 arg5 harg5 arg6 harg6 arg7 harg7 arg8 harg8 arg9 harg9 arg10 harg10 arg11 harg11 arg12 harg12 x0 x1 x2 x3 x4 x5 x6 x7 xs hi).2.1 = pcsS x0 x1 x2 x3 x4 x5 x6 x7 (rows xs) := by
  unfold tmRunB; dsimp only
  sl_open_run
  simp only [readAt_ld, ld_vec, ld_mat, readCov_ld, ld_skip]
  refine congrArg₂ List.cons (congrArg (Sigma.mk _) (row1_S2 (xb1 x0) x1 x2 x3 x4 x5 x6 x7 (rows xs).m1 (rows xs).z1 (rows xs).a1)) ?_
  refine congrArg₂ List.cons (congrArg (Sigma.mk _) (row1_S1 (xb1 x0) x1 x2 x3 x4 x5 x6 x7 (rows xs).m1 (rows xs).z1 (rows xs).a1)) ?_
  refine congrArg₂ List.cons (congrArg (Sigma.mk _) (row1_S0 (xb1 x0) x1 x2 x3 x4 x5 x6 x7 (rows xs).m1 (rows xs).z1 (rows xs).a1)) ?_
  rfl

set_option backward.isDefEq.respectTransparency.types false in
/-- Its stores, C. -/
theorem tmRunB_C (c : Dev nD) (i : grid0.Coords) (arg2 : Memref sig .tc .vmem S2x256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S2x256x1024 .f32) (harg10 : arg10.IsWhole) (arg11 : Memref sig .tc .vmem S2x3x1024 .f32) (harg11 : arg11.IsWhole) (arg12 : Memref sig .tc .vmem S2x8x1024 .f32) (harg12 : arg12.IsWhole)
    (x0 : Vec F S2x256x1024 .f32) (x1 : Vec F S1x1024 .f32) (x2 : Vec F S1x1024 .f32) (x3 : Vec F S1x1024 .f32) (x4 : Vec F S1x1024 .f32) (x5 : Vec F S1024x1024 .bf16) (x6 : Vec F S1024x1024 .bf16) (x7 : Vec F S1024x1024 .bf16) (xs : Vec F S2x8x1024 .f32) (hi : (i 1).val ≠ 0) :
    (tmRunB c i arg2 harg2 arg3 harg3 arg4 harg4 arg5 harg5 arg6 harg6 arg7 harg7 arg8 harg8 arg9 harg9 arg10 harg10 arg11 harg11 arg12 harg12 x0 x1 x2 x3 x4 x5 x6 x7 xs hi).2.2.1 = pcsC x0 x1 x2 x3 x4 x5 x6 x7 (rows xs) := by
  unfold tmRunB; dsimp only
  sl_open_run
  simp only [readAt_ld, ld_vec, ld_mat, readCov_ld, ld_skip]
  refine congrArg₂ List.cons (congrArg (Sigma.mk _) (row1_A (xb1 x0) x1 x2 x3 x4 x5 x6 x7 (rows xs).m1 (rows xs).z1 (rows xs).a1)) ?_
  refine congrArg₂ List.cons (congrArg (Sigma.mk _) (row1_Z (xb1 x0) x1 x2 x3 x4 x5 x6 x7 (rows xs).m1 (rows xs).z1 (rows xs).a1)) ?_
  refine congrArg₂ List.cons (congrArg (Sigma.mk _) (row1_M (xb1 x0) x1 x2 x3 x4 x5 x6 x7 (rows xs).m1 (rows xs).z1 (rows xs).a1)) ?_
  rfl

set_option backward.isDefEq.respectTransparency.types false in
/-- Its stores, Y. -/
theorem tmRunA_Y (c : Dev nD) (i : grid0.Coords) (arg2 : Memref sig .tc .vmem S2x256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S2x256x1024 .f32) (harg10 : arg10.IsWhole) (arg11 : Memref sig .tc .vmem S2x3x1024 .f32) (harg11 : arg11.IsWhole) (arg12 : Memref sig .tc .vmem S2x8x1024 .f32) (harg12 : arg12.IsWhole)
    (x0 : Vec F S2x256x1024 .f32) (x1 : Vec F S1x1024 .f32) (x2 : Vec F S1x1024 .f32) (x3 : Vec F S1x1024 .f32) (x4 : Vec F S1x1024 .f32) (x5 : Vec F S1024x1024 .bf16) (x6 : Vec F S1024x1024 .bf16) (x7 : Vec F S1024x1024 .bf16) (xs : Vec F S2x8x1024 .f32) (hi : (i 1).val = 0) :
    (tmRunA c i arg2 harg2 arg3 harg3 arg4 harg4 arg5 harg5 arg6 harg6 arg7 harg7 arg8 harg8 arg9 harg9 arg10 harg10 arg11 harg11 arg12 harg12 x0 x1 x2 x3 x4 x5 x6 x7 xs hi).1 = pcsY x0 x1 x2 x3 x4 x5 x6 x7 initCarry := by
  unfold tmRunA; dsimp only
  sl_open_run
  simp only [readAt_ld, ld_vec, ld_mat, readCov_ld, ld_skip]
  unfold pcsY initCarry rows initPcs
  dsimp only
  refine congrArg₂ List.cons (congrArg (Sigma.mk _) (row1_Y (xb1 x0) x1 x2 x3 x4 x5 x6 x7 _ _ _)) ?_
  rfl

set_option backward.isDefEq.respectTransparency.types false in
/-- Its stores, S. -/
theorem tmRunA_S (c : Dev nD) (i : grid0.Coords) (arg2 : Memref sig .tc .vmem S2x256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S2x256x1024 .f32) (harg10 : arg10.IsWhole) (arg11 : Memref sig .tc .vmem S2x3x1024 .f32) (harg11 : arg11.IsWhole) (arg12 : Memref sig .tc .vmem S2x8x1024 .f32) (harg12 : arg12.IsWhole)
    (x0 : Vec F S2x256x1024 .f32) (x1 : Vec F S1x1024 .f32) (x2 : Vec F S1x1024 .f32) (x3 : Vec F S1x1024 .f32) (x4 : Vec F S1x1024 .f32) (x5 : Vec F S1024x1024 .bf16) (x6 : Vec F S1024x1024 .bf16) (x7 : Vec F S1024x1024 .bf16) (xs : Vec F S2x8x1024 .f32) (hi : (i 1).val = 0) :
    (tmRunA c i arg2 harg2 arg3 harg3 arg4 harg4 arg5 harg5 arg6 harg6 arg7 harg7 arg8 harg8 arg9 harg9 arg10 harg10 arg11 harg11 arg12 harg12 x0 x1 x2 x3 x4 x5 x6 x7 xs hi).2.1 = pcsS x0 x1 x2 x3 x4 x5 x6 x7 initCarry := by
  unfold tmRunA; dsimp only
  sl_open_run
  simp only [readAt_ld, ld_vec, ld_mat, readCov_ld, ld_skip]
  unfold pcsS initCarry rows initPcs
  dsimp only
  refine congrArg₂ List.cons (congrArg (Sigma.mk _) (row1_S2 (xb1 x0) x1 x2 x3 x4 x5 x6 x7 _ _ initCarry.a1)) ?_
  refine congrArg₂ List.cons (congrArg (Sigma.mk _) (row1_S1 (xb1 x0) x1 x2 x3 x4 x5 x6 x7 _ _ initCarry.a1)) ?_
  refine congrArg₂ List.cons (congrArg (Sigma.mk _) (row1_S0 (xb1 x0) x1 x2 x3 x4 x5 x6 x7 _ _ _)) ?_
  rfl

set_option backward.isDefEq.respectTransparency.types false in
/-- Its stores, C. -/
theorem tmRunA_C (c : Dev nD) (i : grid0.Coords) (arg2 : Memref sig .tc .vmem S2x256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S2x256x1024 .f32) (harg10 : arg10.IsWhole) (arg11 : Memref sig .tc .vmem S2x3x1024 .f32) (harg11 : arg11.IsWhole) (arg12 : Memref sig .tc .vmem S2x8x1024 .f32) (harg12 : arg12.IsWhole)
    (x0 : Vec F S2x256x1024 .f32) (x1 : Vec F S1x1024 .f32) (x2 : Vec F S1x1024 .f32) (x3 : Vec F S1x1024 .f32) (x4 : Vec F S1x1024 .f32) (x5 : Vec F S1024x1024 .bf16) (x6 : Vec F S1024x1024 .bf16) (x7 : Vec F S1024x1024 .bf16) (xs : Vec F S2x8x1024 .f32) (hi : (i 1).val = 0) :
    (tmRunA c i arg2 harg2 arg3 harg3 arg4 harg4 arg5 harg5 arg6 harg6 arg7 harg7 arg8 harg8 arg9 harg9 arg10 harg10 arg11 harg11 arg12 harg12 x0 x1 x2 x3 x4 x5 x6 x7 xs hi).2.2.1 = pcsC x0 x1 x2 x3 x4 x5 x6 x7 initCarry ++ initPcs := by
  unfold tmRunA; dsimp only
  sl_open_run
  simp only [readAt_ld, ld_vec, ld_mat, readCov_ld, ld_skip]
  unfold pcsC pcsC0 nextCarry initCarry rows initPcs
  dsimp only
  refine congrArg₂ List.cons (congrArg (Sigma.mk _) (row1_A (xb1 x0) x1 x2 x3 x4 x5 x6 x7 _ _ _)) ?_
  refine congrArg₂ List.cons (congrArg (Sigma.mk _) (row1_Z (xb1 x0) x1 x2 x3 x4 x5 x6 x7 _ _ initCarry.a1)) ?_
  refine congrArg₂ List.cons (congrArg (Sigma.mk _) (row1_M (xb1 x0) x1 x2 x3 x4 x5 x6 x7 _ initCarry.z1 initCarry.a1)) ?_
  rfl

end Cert.KernelIdeal.Hand

end
-- ==== Proof.TmRegionIdeal.lean ====
/- The time-mix call's pipeline: the body's triple, the carry from point to point, and the body obligation. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.TmBodyIdeal
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.WholeRead
public import Idealize.ShloMosaic.Lib.Pipeline.Value
public import Idealize.ShloMosaic.Lib.Tactic.Stretches
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The carried rows of the scratch after the body's stores -/

/-- A load of the rectangle last stored reads what was stored. -/
theorem ld_hit {sp : Space} {s : Shape} {e : EltTy} (mm : Memref sig .tc sp s e) (f : mm.view.ty.Contents (Elt F)) (r : Rect s)
    (w : r.shape.Idx → Elt F e) (L : List (View.Piece (Elt F) s e)) :
    View.ld (mm.view.read (Elt F) (mm.view.writes (Elt F) f (⟨r, w⟩ :: L))) r = w :=
  funext fun x => View.read_writes_cons_emb mm.view f r w L x

/-- A load passes over a last store that it does not meet. -/
theorem ld_miss {sp : Space} {s : Shape} {e : EltTy} (mm : Memref sig .tc sp s e) (f : mm.view.ty.Contents (Elt F)) (r r' : Rect s)
    (w : r'.shape.Idx → Elt F e) (L : List (View.Piece (Elt F) s e)) (h : Disjoint r.set r'.set) :
    View.ld (mm.view.read (Elt F) (mm.view.writes (Elt F) f (⟨r', w⟩ :: L))) r
      = View.ld (mm.view.read (Elt F) (mm.view.writes (Elt F) f L)) r := by
  funext x
  have hx : r.emb x ∉ Finset.univ.map r'.emb := by
    rw [Rect.map_emb_univ]
    exact fun hm => (Finset.disjoint_left.mp h) (r.toLoadRect.idx_mem x) hm
  exact View.read_slice_write_of_not_mem r' _ w _ hx

set_option maxHeartbeats 1000000 in
/-- After the body's stores, whatever came before them, the scratch's rows are the next carry. -/
theorem rows_writes (arg12 : Memref sig .tc .vmem S2x8x1024 .f32) (f : arg12.view.ty.Contents (Elt F)) (x0 : Vec F S2x256x1024 .f32) (x1 : Vec F S1x1024 .f32) (x2 : Vec F S1x1024 .f32) (x3 : Vec F S1x1024 .f32) (x4 : Vec F S1x1024 .f32) (x5 : Vec F S1024x1024 .bf16) (x6 : Vec F S1024x1024 .bf16) (x7 : Vec F S1024x1024 .bf16) (k : Carry F)
    (L : List (View.Piece (Elt F) S2x8x1024 .f32)) :
    rows (arg12.view.read (Elt F) (arg12.view.writes (Elt F) f (pcsC x0 x1 x2 x3 x4 x5 x6 x7 k ++ L))) = nextCarry x0 x1 x2 x3 x4 x5 x6 x7 k := by
  have e : pcsC x0 x1 x2 x3 x4 x5 x6 x7 k ++ L = ⟨rA1, (nextCarry x0 x1 x2 x3 x4 x5 x6 x7 k).a1⟩ :: ⟨rZ1, (nextCarry x0 x1 x2 x3 x4 x5 x6 x7 k).z1⟩ :: ⟨rM1, (nextCarry x0 x1 x2 x3 x4 x5 x6 x7 k).m1⟩
      :: ⟨rA0, (nextCarry x0 x1 x2 x3 x4 x5 x6 x7 k).a0⟩ :: ⟨rZ0, (nextCarry x0 x1 x2 x3 x4 x5 x6 x7 k).z0⟩ :: ⟨rM0, (nextCarry x0 x1 x2 x3 x4 x5 x6 x7 k).m0⟩ :: L := by unfold pcsC pcsC0; rfl
  rw [e]
  generalize nextCarry x0 x1 x2 x3 x4 x5 x6 x7 k = n
  refine Carry.ext ?_ ?_ ?_ ?_ ?_ ?_
  · unfold rows; dsimp only
    rw [ld_miss arg12 f rM0 rA1 _ _ (Rect.unit_disjoint 0 (by decide))]
    rw [ld_miss arg12 f rM0 rZ1 _ _ (Rect.unit_disjoint 0 (by decide))]
    rw [ld_miss arg12 f rM0 rM1 _ _ (Rect.unit_disjoint 0 (by decide))]
    rw [ld_miss arg12 f rM0 rA0 _ _ (Rect.unit_disjoint 1 (by decide))]
    rw [ld_miss arg12 f rM0 rZ0 _ _ (Rect.unit_disjoint 1 (by decide))]
    exact ld_hit arg12 f rM0 _ _
  · unfold rows; dsimp only
    rw [ld_miss arg12 f rZ0 rA1 _ _ (Rect.unit_disjoint 0 (by decide))]
    rw [ld_miss arg12 f rZ0 rZ1 _ _ (Rect.unit_disjoint 0 (by decide))]
    rw [ld_miss arg12 f rZ0 rM1 _ _ (Rect.unit_disjoint 0 (by decide))]
    rw [ld_miss arg12 f rZ0 rA0 _ _ (Rect.unit_disjoint 1 (by decide))]
    exact ld_hit arg12 f rZ0 _ _
  · unfold rows; dsimp only
    rw [ld_miss arg12 f rA0 rA1 _ _ (Rect.unit_disjoint 0 (by decide))]
    rw [ld_miss arg12 f rA0 rZ1 _ _ (Rect.unit_disjoint 0 (by decide))]
    rw [ld_miss arg12 f rA0 rM1 _ _ (Rect.unit_disjoint 0 (by decide))]
    exact ld_hit arg12 f rA0 _ _
  · unfold rows; dsimp only
    rw [ld_miss arg12 f rM1 rA1 _ _ (Rect.unit_disjoint 1 (by decide))]
    rw [ld_miss arg12 f rM1 rZ1 _ _ (Rect.unit_disjoint 1 (by decide))]
    exact ld_hit arg12 f rM1 _ _
  · unfold rows; dsimp only
    rw [ld_miss arg12 f rZ1 rA1 _ _ (Rect.unit_disjoint 1 (by decide))]
    exact ld_hit arg12 f rZ1 _ _
  · unfold rows; dsimp only
    exact ld_hit arg12 f rA1 _ _

/-! ## The body's triple -/

/-- The body's stores into the output block cover it. -/
theorem cover_Y (x0 : Vec F S2x256x1024 .f32) (x1 : Vec F S1x1024 .f32) (x2 : Vec F S1x1024 .f32) (x3 : Vec F S1x1024 .f32) (x4 : Vec F S1x1024 .f32) (x5 : Vec F S1024x1024 .bf16) (x6 : Vec F S1024x1024 .bf16) (x7 : Vec F S1024x1024 .bf16) (k : Carry F) (y : S2x256x1024.Idx) : ∃ pc ∈ pcsY x0 x1 x2 x3 x4 x5 x6 x7 k, y ∈ pc.1.set :=
  View.cover_of_tiledL (pcsY x0 x1 x2 x3 x4 x5 x6 x7 k) S1x256x1024.size (by sl_kernel_rfl) y

/-- The body's stores into the state block cover it. -/
theorem cover_S (x0 : Vec F S2x256x1024 .f32) (x1 : Vec F S1x1024 .f32) (x2 : Vec F S1x1024 .f32) (x3 : Vec F S1x1024 .f32) (x4 : Vec F S1x1024 .f32) (x5 : Vec F S1024x1024 .bf16) (x6 : Vec F S1024x1024 .bf16) (x7 : Vec F S1024x1024 .bf16) (k : Carry F) (y : S2x3x1024.Idx) : ∃ pc ∈ pcsS x0 x1 x2 x3 x4 x5 x6 x7 k, y ∈ pc.1.set :=
  View.cover_of_tiledL (pcsS x0 x1 x2 x3 x4 x5 x6 x7 k) S1x1x1024.size (by sl_kernel_rfl) y

/-- What the body leaves in its output block. -/
def outY (x0 : Vec F S2x256x1024 .f32) (x1 : Vec F S1x1024 .f32) (x2 : Vec F S1x1024 .f32) (x3 : Vec F S1x1024 .f32) (x4 : Vec F S1x1024 .f32) (x5 : Vec F S1024x1024 .bf16) (x6 : Vec F S1024x1024 .bf16) (x7 : Vec F S1024x1024 .bf16) (k : Carry F) : Vec F S2x256x1024 .f32 := View.canon (pcsY x0 x1 x2 x3 x4 x5 x6 x7 k)

/-- What the body leaves in its state block. -/
def outS (x0 : Vec F S2x256x1024 .f32) (x1 : Vec F S1x1024 .f32) (x2 : Vec F S1x1024 .f32) (x3 : Vec F S1x1024 .f32) (x4 : Vec F S1x1024 .f32) (x5 : Vec F S1024x1024 .bf16) (x6 : Vec F S1024x1024 .bf16) (x7 : Vec F S1024x1024 .bf16) (k : Carry F) : Vec F S2x3x1024 .f32 := View.canon (pcsS x0 x1 x2 x3 x4 x5 x6 x7 k)

/-- The carry a point begins with, read off the scratch or fresh. -/
def carryOf (i : grid0.Coords) (xs : Vec F S2x8x1024 .f32) : Carry F := if (i 1).val = 0 then initCarry else rows xs

/-- The time-mix body on whole buffers: it leaves its inputs, fills its output and state blocks and carries the rows on. -/
theorem tm_body (c : Dev nD) (i : grid0.Coords) (arg2 : Memref sig .tc .vmem S2x256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S2x256x1024 .f32) (harg10 : arg10.IsWhole) (arg11 : Memref sig .tc .vmem S2x3x1024 .f32) (harg11 : arg11.IsWhole) (arg12 : Memref sig .tc .vmem S2x8x1024 .f32) (harg12 : arg12.IsWhole)
    (x0 : Vec F S2x256x1024 .f32) (x1 : Vec F S1x1024 .f32) (x2 : Vec F S1x1024 .f32) (x3 : Vec F S1x1024 .f32) (x4 : Vec F S1x1024 .f32) (x5 : Vec F S1024x1024 .bf16) (x6 : Vec F S1024x1024 .bf16) (x7 : Vec F S1024x1024 .bf16) (xs : Vec F S2x8x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outY x0 x1 x2 x3 x4 x5 x6 x7 (carryOf i xs)) ∗ owns (c : Thread nD τ) arg11 fullShare (outS x0 x1 x2 x3 x4 x5 x6 x7 (carryOf i xs))
            ∗ (∃ d, ⌜rows d = nextCarry x0 x1 x2 x3 x4 x5 x6 x7 (carryOf i xs)⌝ ∗ owns (c : Thread nD τ) arg12 fullShare d)) -∗ K ⟨⟩))
      ⊢ wp frame (wpE (defs₀ (F := F)) Variants.none c none) E (cc0__time_mix_kernel i arg2 harg2 arg3 harg3 arg4 harg4 arg5 harg5 arg6 harg6 arg7 harg7 arg8 harg8 arg9 harg9 arg10 harg10 arg11 harg11 arg12 harg12) K := by
  by_cases hi : (i 1).val = 0
  · have hk : carryOf i xs = initCarry := if_pos hi
    rw [hk]
    have hY := tmRunA_Y c i arg2 harg2 arg3 harg3 arg4 harg4 arg5 harg5 arg6 harg6 arg7 harg7 arg8 harg8 arg9 harg9 arg10 harg10 arg11 harg11 arg12 harg12 x0 x1 x2 x3 x4 x5 x6 x7 xs hi
    have hS := tmRunA_S c i arg2 harg2 arg3 harg3 arg4 harg4 arg5 harg5 arg6 harg6 arg7 harg7 arg8 harg8 arg9 harg9 arg10 harg10 arg11 harg11 arg12 harg12 x0 x1 x2 x3 x4 x5 x6 x7 xs hi
    have hC := tmRunA_C c i arg2 harg2 arg3 harg3 arg4 harg4 arg5 harg5 arg6 harg6 arg7 harg7 arg8 harg8 arg9 harg9 arg10 harg10 arg11 harg11 arg12 harg12 x0 x1 x2 x3 x4 x5 x6 x7 xs hi
    generalize tmRunA c i arg2 harg2 arg3 harg3 arg4 harg4 arg5 harg5 arg6 harg6 arg7 harg7 arg8 harg8 arg9 harg9 arg10 harg10 arg11 harg11 arg12 harg12 x0 x1 x2 x3 x4 x5 x6 x7 xs hi = r at hY hS hC
    obtain ⟨LY, LS, LC, hrun⟩ := r
    dsimp only at hY hS hC
    subst hY hS hC
    iintro ⟨H2, H3, H4, H5, H6, H7, H8, H9, H10, H11, H12, Hk⟩
    iapply (hrun E K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro ⟨H2, H3, H4, H5, H6, H7, H8, H9, ⟨%f10, H10⟩, ⟨%f11, H11⟩, H12⟩
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_eq_canon _ _ _ (cover_Y x0 x1 x2 x3 x4 x5 x6 x7 initCarry)
    isplitl [H11]
    · unfold owns; iexists _; isplitr
      swap; · iexact H11
      ipureintro; exact View.read_writes_eq_canon _ _ _ (cover_S x0 x1 x2 x3 x4 x5 x6 x7 initCarry)
    iexists _; isplitr
    swap
    · unfold owns; iexists _; isplitr
      swap; · iexact H12
      ipureintro; rfl
    ipureintro
    exact rows_writes arg12 _ x0 x1 x2 x3 x4 x5 x6 x7 initCarry initPcs
  · have hk : carryOf i xs = (rows xs) := if_neg hi
    rw [hk]
    have hY := tmRunB_Y c i arg2 harg2 arg3 harg3 arg4 harg4 arg5 harg5 arg6 harg6 arg7 harg7 arg8 harg8 arg9 harg9 arg10 harg10 arg11 harg11 arg12 harg12 x0 x1 x2 x3 x4 x5 x6 x7 xs hi
    have hS := tmRunB_S c i arg2 harg2 arg3 harg3 arg4 harg4 arg5 harg5 arg6 harg6 arg7 harg7 arg8 harg8 arg9 harg9 arg10 harg10 arg11 harg11 arg12 harg12 x0 x1 x2 x3 x4 x5 x6 x7 xs hi
    have hC := tmRunB_C c i arg2 harg2 arg3 harg3 arg4 harg4 arg5 harg5 arg6 harg6 arg7 harg7 arg8 harg8 arg9 harg9 arg10 harg10 arg11 harg11 arg12 harg12 x0 x1 x2 x3 x4 x5 x6 x7 xs hi
    generalize tmRunB c i arg2 harg2 arg3 harg3 arg4 harg4 arg5 harg5 arg6 harg6 arg7 harg7 arg8 harg8 arg9 harg9 arg10 harg10 arg11 harg11 arg12 harg12 x0 x1 x2 x3 x4 x5 x6 x7 xs hi = r at hY hS hC
    obtain ⟨LY, LS, LC, hrun⟩ := r
    dsimp only at hY hS hC
    subst hY hS hC
    iintro ⟨H2, H3, H4, H5, H6, H7, H8, H9, H10, H11, H12, Hk⟩
    iapply (hrun E K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro ⟨H2, H3, H4, H5, H6, H7, H8, H9, ⟨%f10, H10⟩, ⟨%f11, H11⟩, H12⟩
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_eq_canon _ _ _ (cover_Y x0 x1 x2 x3 x4 x5 x6 x7 (rows xs))
    isplitl [H11]
    · unfold owns; iexists _; isplitr
      swap; · iexact H11
      ipureintro; exact View.read_writes_eq_canon _ _ _ (cover_S x0 x1 x2 x3 x4 x5 x6 x7 (rows xs))
    iexists _; isplitr
    swap
    · unfold owns; iexists _; isplitr
      swap; · iexact H12
      ipureintro; rfl
    ipureintro
    exact (by rw [List.append_nil] : pcsC x0 x1 x2 x3 x4 x5 x6 x7 (rows xs) ++ [] = pcsC x0 x1 x2 x3 x4 x5 x6 x7 (rows xs)) ▸ rows_writes arg12 _ x0 x1 x2 x3 x4 x5 x6 x7 (rows xs) []

-- the contents of every buffer as the region finds them
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's staging buffer holds its block at every point. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's staging buffer holds its block at every point. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The staging memrefs at a point -/

/-- The staging buffer of the activations at a point. -/
abbrev ms0_0 (t : Fin cfg0.N) : Memref sig .tc .vmem S2x256x1024 .f32 := win0_0.stage (cfg0.slots t 0)
/-- That buffer is whole. -/
abbrev hs0_0 (t : Fin cfg0.N) : (ms0_0 t).IsWhole := hstage0_0 ((cfg0.slots t 0).cast nbuf0_0)
/-- The staging buffer of the scale at a point. -/
abbrev ms0_1 (t : Fin cfg0.N) : Memref sig .tc .vmem S1x1024 .f32 := win0_1.stage (cfg0.slots t 1)
/-- That buffer is whole. -/
abbrev hs0_1 (t : Fin cfg0.N) : (ms0_1 t).IsWhole := hstage0_1 ((cfg0.slots t 1).cast nbuf0_1)
/-- The staging buffer of the shift at a point. -/
abbrev ms0_2 (t : Fin cfg0.N) : Memref sig .tc .vmem S1x1024 .f32 := win0_2.stage (cfg0.slots t 2)
/-- That buffer is whole. -/
abbrev hs0_2 (t : Fin cfg0.N) : (ms0_2 t).IsWhole := hstage0_2 ((cfg0.slots t 2).cast nbuf0_2)
/-- The staging buffer of the decay at a point. -/
abbrev ms0_3 (t : Fin cfg0.N) : Memref sig .tc .vmem S1x1024 .f32 := win0_3.stage (cfg0.slots t 3)
/-- That buffer is whole. -/
abbrev hs0_3 (t : Fin cfg0.N) : (ms0_3 t).IsWhole := hstage0_3 ((cfg0.slots t 3).cast nbuf0_3)
/-- The staging buffer of the bonus at a point. -/
abbrev ms0_4 (t : Fin cfg0.N) : Memref sig .tc .vmem S1x1024 .f32 := win0_4.stage (cfg0.slots t 4)
/-- That buffer is whole. -/
abbrev hs0_4 (t : Fin cfg0.N) : (ms0_4 t).IsWhole := hstage0_4 ((cfg0.slots t 4).cast nbuf0_4)
/-- The staging buffer of the key weight at a point. -/
abbrev ms0_5 (t : Fin cfg0.N) : Memref sig .tc .vmem S1024x1024 .bf16 := win0_5.stage (cfg0.slots t 5)
/-- That buffer is whole. -/
abbrev hs0_5 (t : Fin cfg0.N) : (ms0_5 t).IsWhole := hstage0_5 ((cfg0.slots t 5).cast nbuf0_5)
/-- The staging buffer of the value weight at a point. -/
abbrev ms0_6 (t : Fin cfg0.N) : Memref sig .tc .vmem S1024x1024 .bf16 := win0_6.stage (cfg0.slots t 6)
/-- That buffer is whole. -/
abbrev hs0_6 (t : Fin cfg0.N) : (ms0_6 t).IsWhole := hstage0_6 ((cfg0.slots t 6).cast nbuf0_6)
/-- The staging buffer of the receptance weight at a point. -/
abbrev ms0_7 (t : Fin cfg0.N) : Memref sig .tc .vmem S1024x1024 .bf16 := win0_7.stage (cfg0.slots t 7)
/-- That buffer is whole. -/
abbrev hs0_7 (t : Fin cfg0.N) : (ms0_7 t).IsWhole := hstage0_7 ((cfg0.slots t 7).cast nbuf0_7)
/-- The staging buffer of the output at a point. -/
abbrev ms0_8 (t : Fin cfg0.N) : Memref sig .tc .vmem S2x256x1024 .f32 := win0_8.stage (cfg0.slots t 8)
/-- That buffer is whole. -/
abbrev hs0_8 (t : Fin cfg0.N) : (ms0_8 t).IsWhole := hstage0_8 ((cfg0.slots t 8).cast nbuf0_8)
/-- The staging buffer of the state at a point. -/
abbrev ms0_9 (t : Fin cfg0.N) : Memref sig .tc .vmem S2x3x1024 .f32 := win0_9.stage (cfg0.slots t 9)
/-- That buffer is whole. -/
abbrev hs0_9 (t : Fin cfg0.N) : (ms0_9 t).IsWhole := hstage0_9 ((cfg0.slots t 9).cast nbuf0_9)
/-- The carried scratch, whole. -/
abbrev scM0_0 : Memref sig .tc .vmem S2x8x1024 .f32 := Memref.whole cc0_scratch0

/-- The scoped buffers the region does not touch. -/
def rest0 (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

/-- The scoped rest with the scratch as an owned memref. -/
theorem PhiA0_eq (c : Dev nD) :
    (Pipeline.ΦA spec0 c : sProp 𝕄) = iprop(iprop((∃ d, owns (c : Thread nD τ) scM0_0 fullShare d) ∗ rest0 c) ∗ (∃ r, prngReg c r)) := by
  unfold Pipeline.ΦA rest0; rw [scopedRest0_eq]; simp only [scM0_0, owns_whole]; try rfl

/-! ## The carry, point by point -/

/-- The carry the body computes with at point `n`: fresh at the first chunk of a batch block, else what the point before left. -/
def cin (c : Dev nD) : ℕ → Carry F
  | 0 => initCarry
  | n + 1 => if (n + 1) % 8 = 0 then initCarry
      else if h : n < cfg0.N then
        nextCarry (iblk0 V c 0 ⟨n, h⟩) (iblk0 V c 1 ⟨n, h⟩) (iblk0 V c 2 ⟨n, h⟩) (iblk0 V c 3 ⟨n, h⟩) (iblk0 V c 4 ⟨n, h⟩) (iblk0 V c 5 ⟨n, h⟩) (iblk0 V c 6 ⟨n, h⟩) (iblk0 V c 7 ⟨n, h⟩) (cin c n)
      else initCarry

/-- A batch pair's first chunk starts from the initial carry. -/
theorem cin_first (c : Dev nD) (n : ℕ) (h : n % 8 = 0) : cin V c n = initCarry := by
  cases n with
  | zero => rfl
  | succ n => rw [cin]; exact if_pos h

/-- A later chunk starts from the carry that the chunk before left. -/
theorem cin_next (c : Dev nD) (t : Fin cfg0.N) (h : (t.val + 1) % 8 ≠ 0) :
    cin V c (t.val + 1) = nextCarry (iblk0 V c 0 t) (iblk0 V c 1 t) (iblk0 V c 2 t) (iblk0 V c 3 t) (iblk0 V c 4 t) (iblk0 V c 5 t) (iblk0 V c 6 t) (iblk0 V c 7 t) (cin V c t.val) := by
  rw [cin, if_neg h, dif_pos t.isLt]

/-- The chunk number of a point. -/
theorem chunk_of : ∀ t : Fin cfg0.N, (grid0.coords t 1).val = t.val % 8 := by
  decide +kernel

/-! ## The pipeline's proof data -/

/-- The arrays as the region finds them; inputs' blocks left in place; outputs at what the body computes from the carry;
    the invariant tracks the scratch's carried rows inside a batch block. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => outY (iblk0 V c 0 t) (iblk0 V c 1 t) (iblk0 V c 2 t) (iblk0 V c 3 t) (iblk0 V c 4 t) (iblk0 V c 5 t) (iblk0 V c 6 t) (iblk0 V c 7 t) (cin V c t.val)
    | ⟨9, _⟩ => outS (iblk0 V c 0 t) (iblk0 V c 1 t) (iblk0 V c 2 t) (iblk0 V c 3 t) (iblk0 V c 4 t) (iblk0 V c 5 t) (iblk0 V c 6 t) (iblk0 V c 7 t) (cin V c t.val)
  Φ t := iprop(iprop((∃ xs, ⌜t.val % 8 ≠ 0 → rows xs = cin V c t.val⌝ ∗ owns (c : Thread nD τ) scM0_0 fullShare xs) ∗ rest0 c) ∗ (∃ r, prngReg c r))
  q _ := fullShare
  owed _ := 0

/-- An array of the time-mix call before its first point is the one the call is entered with. -/
theorem A_eq0 (c : Dev nD) (w : Fin cfg0.W) : (dat0 V c).A w = V c (Pipeline.arrRef spec0 w) := by
  dsimp only [dat0]

/-- After a point the block of the activations is as it was. -/
theorem after0_0 (c : Dev nD) (t : Fin cfg0.N) : (dat0 V c).after 0 t = iblk0 V c 0 t := by dsimp only [dat0]
/-- After a point the block of the scale is as it was. -/
theorem after0_1 (c : Dev nD) (t : Fin cfg0.N) : (dat0 V c).after 1 t = iblk0 V c 1 t := by dsimp only [dat0]
/-- After a point the block of the shift is as it was. -/
theorem after0_2 (c : Dev nD) (t : Fin cfg0.N) : (dat0 V c).after 2 t = iblk0 V c 2 t := by dsimp only [dat0]
/-- After a point the block of the decay is as it was. -/
theorem after0_3 (c : Dev nD) (t : Fin cfg0.N) : (dat0 V c).after 3 t = iblk0 V c 3 t := by dsimp only [dat0]
/-- After a point the block of the bonus is as it was. -/
theorem after0_4 (c : Dev nD) (t : Fin cfg0.N) : (dat0 V c).after 4 t = iblk0 V c 4 t := by dsimp only [dat0]
/-- After a point the block of the key weight is as it was. -/
theorem after0_5 (c : Dev nD) (t : Fin cfg0.N) : (dat0 V c).after 5 t = iblk0 V c 5 t := by dsimp only [dat0]
/-- After a point the block of the value weight is as it was. -/
theorem after0_6 (c : Dev nD) (t : Fin cfg0.N) : (dat0 V c).after 6 t = iblk0 V c 6 t := by dsimp only [dat0]
/-- After a point the block of the receptance weight is as it was. -/
theorem after0_7 (c : Dev nD) (t : Fin cfg0.N) : (dat0 V c).after 7 t = iblk0 V c 7 t := by dsimp only [dat0]
/-- After a point the block of the output is what the body computed. -/
theorem after0_8 (c : Dev nD) (t : Fin cfg0.N) : (dat0 V c).after 8 t = outY (iblk0 V c 0 t) (iblk0 V c 1 t) (iblk0 V c 2 t) (iblk0 V c 3 t) (iblk0 V c 4 t) (iblk0 V c 5 t) (iblk0 V c 6 t) (iblk0 V c 7 t) (cin V c t.val) := by dsimp only [dat0]
/-- After a point the block of the state is what the body computed. -/
theorem after0_9 (c : Dev nD) (t : Fin cfg0.N) : (dat0 V c).after 9 t = outS (iblk0 V c 0 t) (iblk0 V c 1 t) (iblk0 V c 2 t) (iblk0 V c 3 t) (iblk0 V c 4 t) (iblk0 V c 5 t) (iblk0 V c 6 t) (iblk0 V c 7 t) (cin V c t.val) := by dsimp only [dat0]

/-- Before a point the block of the activations is the array's. -/
theorem before0_0 (c : Dev nD) (t : Fin cfg0.N) (d) : (dat0 V c).before 0 t d = iblk0 V c 0 t :=
  before0_0_of V (dat0 V c) (A_eq0 V c 0) (after0_0 V c) t d
/-- Before a point the block of the scale is the array's. -/
theorem before0_1 (c : Dev nD) (t : Fin cfg0.N) (d) : (dat0 V c).before 1 t d = iblk0 V c 1 t :=
  before0_1_of V (dat0 V c) (A_eq0 V c 1) (after0_1 V c) t d
/-- Before a point the block of the shift is the array's. -/
theorem before0_2 (c : Dev nD) (t : Fin cfg0.N) (d) : (dat0 V c).before 2 t d = iblk0 V c 2 t :=
  before0_2_of V (dat0 V c) (A_eq0 V c 2) (after0_2 V c) t d
/-- Before a point the block of the decay is the array's. -/
theorem before0_3 (c : Dev nD) (t : Fin cfg0.N) (d) : (dat0 V c).before 3 t d = iblk0 V c 3 t :=
  before0_3_of V (dat0 V c) (A_eq0 V c 3) (after0_3 V c) t d
/-- Before a point the block of the bonus is the array's. -/
theorem before0_4 (c : Dev nD) (t : Fin cfg0.N) (d) : (dat0 V c).before 4 t d = iblk0 V c 4 t :=
  before0_4_of V (dat0 V c) (A_eq0 V c 4) (after0_4 V c) t d
/-- Before a point the block of the key weight is the array's. -/
theorem before0_5 (c : Dev nD) (t : Fin cfg0.N) (d) : (dat0 V c).before 5 t d = iblk0 V c 5 t :=
  before0_5_of V (dat0 V c) (A_eq0 V c 5) (after0_5 V c) t d
/-- Before a point the block of the value weight is the array's. -/
theorem before0_6 (c : Dev nD) (t : Fin cfg0.N) (d) : (dat0 V c).before 6 t d = iblk0 V c 6 t :=
  before0_6_of V (dat0 V c) (A_eq0 V c 6) (after0_6 V c) t d
/-- Before a point the block of the receptance weight is the array's. -/
theorem before0_7 (c : Dev nD) (t : Fin cfg0.N) (d) : (dat0 V c).before 7 t d = iblk0 V c 7 t :=
  before0_7_of V (dat0 V c) (A_eq0 V c 7) (after0_7 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t))

set_option maxHeartbeats 1000000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl,
    after0_0, after0_1, after0_2, after0_3, after0_4, after0_5, after0_6, after0_7, after0_8, after0_9]
  rw [show (dat0 V c).Φ t.castSucc = iprop(iprop((∃ xs, ⌜t.val % 8 ≠ 0 → rows xs = cin V c t.val⌝ ∗ owns (c : Thread nD τ) scM0_0 fullShare xs) ∗ rest0 c) ∗ (∃ r, prngReg c r)) from rfl,
    show (dat0 V c).Φ t.succ = iprop(iprop((∃ xs, ⌜(t.val + 1) % 8 ≠ 0 → rows xs = cin V c (t.val + 1)⌝ ∗ owns (c : Thread nD τ) scM0_0 fullShare xs) ∗ rest0 c) ∗ (∃ r, prngReg c r)) from rfl]
  iintro ⟨⟨⟨⟨%xs, %hxs, HS0⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hc : carryOf (grid0.coords t) xs = cin V c t.val := by
    unfold carryOf
    rw [chunk_of t]
    by_cases h : t.val % 8 = 0
    · rw [if_pos h, cin_first V c _ h]
    · rw [if_neg h, hxs h]
  iapply (tm_body c (grid0.coords t) _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) xs Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  rw [hc]
  iintro ⟨H0, H1, H2, H3, H4, H5, H6, H7, H8, H9, ⟨%d, %hd, HS0⟩⟩
  isplitl [HS0 HR Hg]
  · isplitl [HS0 HR]
    · isplitl [HS0]
      · iexists d; isplitr
        · ipureintro; intro h; rw [hd, cin_next V c t h]
        iexact HS0
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The first label's body is the time mix on the point's staging buffers. -/
theorem defs₀_row0 (t : Fin cfg0.N) :
    defs₀ (F := F) .tc cfg0.body (cfg0.bodyArgs t (cfg0.slots t)) = bodyAt0 t := by
  unfold defs₀; rw [Defs.onTc_tc]

/-- The body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Hand

end
-- ==== Proof.CmRegionIdeal.lean ====
/- The channel-mix call's pipeline: its body's stores as one function of its blocks, and the body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.WholeRead
public import Idealize.ShloMosaic.Lib.Pipeline.Value
public import Idealize.ShloMosaic.Lib.Tactic.Stretches
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The channel-mix body run on whole buffers: the stores it makes into its output block. -/
def cmRun (c : Dev nD) (i : grid1.Coords) (arg2 : Memref sig .tc .vmem S1x1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024x1024 .f32) (harg8 : arg8.IsWhole) (arg9 : Memref sig .tc .vmem S1024x4096 .bf16) (harg9 : arg9.IsWhole)
    (x0 : Vec F S1x1024x1024 .f32) (x1 : Vec F S1x1024 .f32) (x2 : Vec F S1x1024 .f32) (x3 : Vec F S1024x1024 .bf16) (x4 : Vec F S1024x4096 .bf16) (x5 : Vec F S4096x1024 .bf16) :
    Σ' (L6 : List (View.Piece (Elt F) S1x1024x1024 .f32)), { LT : List (View.Piece (Elt F) S1024x4096 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LT)) -∗ K ⟨⟩))
          ⊢ wp frame (wpE (defs₀ (F := F)) Variants.none c none) E (cc1__channel_mix_kernel i arg2 harg2 arg3 harg3 arg4 harg4 arg5 harg5 arg6 harg6 arg7 harg7 arg8 harg8 arg9 harg9) K } := by
  refine ⟨?_, ?_, fun E K => ?run⟩
  case run =>
    simp only [cc1__channel_mix_kernel_eq_skeleton]; unfold cc1__channel_mix_kernel_skel
    simp only [k1_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact H9

/-- What the body computes from its blocks. -/
abbrev cmOut (x0 : Vec F S1x1024x1024 .f32) (x1 : Vec F S1x1024 .f32) (x2 : Vec F S1x1024 .f32) (x3 : Vec F S1024x1024 .bf16) (x4 : Vec F S1024x4096 .bf16) (x5 : Vec F S4096x1024 .bf16) : FVec F S1x1024x1024 .f32 :=
  k1_pay2 (k1_pay3 x0) (k1_pay5 x0 x1 x2 x3) (k1_pay1 (k1_pay6 x0 x1 x2 x4)) x5

/-- What the body leaves in its output block: its one store. -/
def outCm (x0 : Vec F S1x1024x1024 .f32) (x1 : Vec F S1x1024 .f32) (x2 : Vec F S1x1024 .f32) (x3 : Vec F S1024x1024 .bf16) (x4 : Vec F S1024x4096 .bf16) (x5 : Vec F S4096x1024 .bf16) : Vec F S1x1024x1024 .f32 :=
  View.canon [⟨Rect.unit (s := S1x1024x1024) ![0, 0, 0] ![1, 1024, 1024] inb_S1x1024x1024_S1x1024x1024_0_0_0, cmOut x0 x1 x2 x3 x4 x5⟩]

/-! ## Loads of whole buffers -/

/-- A load from a whole buffer holding `X` reads `X` at its rectangle. -/
theorem cm_readAt {sp : Space} {s : Shape} {e : EltTy} {mm : Memref sig .tc sp s e} (h : mm.IsWhole) (X : s.Idx → Elt F e) (r : Rect s) :
    View.readAt (Elt F) mm.view r.toLoadRect (h.unread X) = View.ld X r :=
  funext fun x => h.readAt_unread X r.toLoadRect x

/-- A load after stores reads what the stores left, at its rectangle. -/
theorem cm_readCov {sp : Space} {s : Shape} {e : EltTy} (mm : Memref sig .tc sp s e) (L : List (View.Piece (Elt F) s e)) (r : Rect s) :
    mm.view.readCov L r.toLoadRect = View.ld (View.canon L) r := View.readCov_eq_canon' mm.view L r.toLoadRect

/-- Two zero offsets are the zero offset. -/
theorem cm_z2 : (![0, 0] : Fin 2 → ℕ) = fun _ => 0 := by decide
/-- Three zero offsets are the zero offset. -/
theorem cm_z3 : (![0, 0, 0] : Fin 3 → ℕ) = fun _ => 0 := by decide

/-- Loading the whole activations block reads it. -/
theorem cm_ld3 {e : EltTy} (X : Vec F S1x1024x1024 e) (h : ∀ a, (![0, 0, 0] : Fin 3 → ℕ) a + (![1, 1024, 1024] : Fin 3 → ℕ) a ≤ S1x1024x1024.size a) :
    View.ld X (Rect.unit (s := S1x1024x1024) ![0, 0, 0] ![1, 1024, 1024] h) = X := View.ld_unit_zero (S := S1x1024x1024) cm_z3 h X

/-- Loading a whole channel row reads it. -/
theorem cm_ld2 {e : EltTy} (X : Vec F S1x1024 e) (h : ∀ a, (![0, 0] : Fin 2 → ℕ) a + (![1, 1024] : Fin 2 → ℕ) a ≤ S1x1024.size a) :
    View.ld X (Rect.unit (s := S1x1024) ![0, 0] ![1, 1024] h) = X := View.ld_unit_zero (S := S1x1024) cm_z2 h X

/-- Loading the whole square weight reads it. -/
theorem cm_ld_a {e : EltTy} (X : Vec F S1024x1024 e) (h : ∀ a, (![0, 0] : Fin 2 → ℕ) a + (![1024, 1024] : Fin 2 → ℕ) a ≤ S1024x1024.size a) :
    View.ld X (Rect.unit (s := S1024x1024) ![0, 0] ![1024, 1024] h) = X := View.ld_unit_zero (S := S1024x1024) cm_z2 h X

/-- Loading the whole first wide weight reads it. -/
theorem cm_ld_b {e : EltTy} (X : Vec F S1024x4096 e) (h : ∀ a, (![0, 0] : Fin 2 → ℕ) a + (![1024, 4096] : Fin 2 → ℕ) a ≤ S1024x4096.size a) :
    View.ld X (Rect.unit (s := S1024x4096) ![0, 0] ![1024, 4096] h) = X := View.ld_unit_zero (S := S1024x4096) cm_z2 h X

/-- Loading the whole second wide weight reads it. -/
theorem cm_ld_c {e : EltTy} (X : Vec F S4096x1024 e) (h : ∀ a, (![0, 0] : Fin 2 → ℕ) a + (![4096, 1024] : Fin 2 → ℕ) a ≤ S4096x1024.size a) :
    View.ld X (Rect.unit (s := S4096x1024) ![0, 0] ![4096, 1024] h) = X := View.ld_unit_zero (S := S4096x1024) cm_z2 h X

/-- After a store of the whole scratch it holds what was stored. -/
theorem cm_canon (h : ∀ a, (![0, 0] : Fin 2 → ℕ) a + (![1024, 4096] : Fin 2 → ℕ) a ≤ S1024x4096.size a) (w : Vec F S1024x4096 .bf16)
    (L : List (View.Piece (Elt F) S1024x4096 .bf16)) :
    View.canon (⟨Rect.unit (s := S1024x4096) ![0, 0] ![1024, 4096] h, w⟩ :: L) = w :=
  View.canon_cons_unit_zero (S := S1024x4096) cm_z2 h w L

/-- After a store of the whole output block it holds what was stored. -/
theorem cm_canon3 (h : ∀ a, (![0, 0, 0] : Fin 3 → ℕ) a + (![1, 1024, 1024] : Fin 3 → ℕ) a ≤ S1x1024x1024.size a) (w : Vec F S1x1024x1024 .f32)
    (L : List (View.Piece (Elt F) S1x1024x1024 .f32)) :
    View.canon (⟨Rect.unit (s := S1x1024x1024) ![0, 0, 0] ![1, 1024, 1024] h, w⟩ :: L) = w :=
  View.canon_cons_unit_zero (S := S1x1024x1024) cm_z3 h w L

/-- The output's one store covers its block. -/
theorem cm_cover (y : S1x1024x1024.Idx) :
    y ∈ (Rect.unit (s := S1x1024x1024) ![0, 0, 0] ![1, 1024, 1024] inb_S1x1024x1024_S1x1024x1024_0_0_0).set := by
  refine Rect.mem_set_unit.mpr fun a => ?_
  rw [cm_z3]
  exact ⟨Nat.zero_le _, by rw [Nat.zero_add]; exact (y a).isLt⟩

/-- The body's stores: one of the scratch, one of the output block. -/
theorem cmRun_L (c : Dev nD) (i : grid1.Coords) (arg2 : Memref sig .tc .vmem S1x1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024x1024 .f32) (harg8 : arg8.IsWhole) (arg9 : Memref sig .tc .vmem S1024x4096 .bf16) (harg9 : arg9.IsWhole)
    (x0 : Vec F S1x1024x1024 .f32) (x1 : Vec F S1x1024 .f32) (x2 : Vec F S1x1024 .f32) (x3 : Vec F S1024x1024 .bf16) (x4 : Vec F S1024x4096 .bf16) (x5 : Vec F S4096x1024 .bf16) : (cmRun c i arg2 harg2 arg3 harg3 arg4 harg4 arg5 harg5 arg6 harg6 arg7 harg7 arg8 harg8 arg9 harg9 x0 x1 x2 x3 x4 x5).1
      = [⟨Rect.unit (s := S1x1024x1024) ![0, 0, 0] ![1, 1024, 1024] inb_S1x1024x1024_S1x1024x1024_0_0_0, cmOut x0 x1 x2 x3 x4 x5⟩] := by
  unfold cmRun; dsimp only
  sl_open_run
  simp only [cm_readAt, cm_ld3, cm_ld2, cm_ld_a, cm_ld_b, cm_ld_c, cm_readCov, cm_canon]

/-- The channel-mix body on whole buffers. -/
theorem cm_body (c : Dev nD) (i : grid1.Coords) (arg2 : Memref sig .tc .vmem S1x1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024x1024 .f32) (harg8 : arg8.IsWhole) (arg9 : Memref sig .tc .vmem S1024x4096 .bf16) (harg9 : arg9.IsWhole)
    (x0 : Vec F S1x1024x1024 .f32) (x1 : Vec F S1x1024 .f32) (x2 : Vec F S1x1024 .f32) (x3 : Vec F S1024x1024 .bf16) (x4 : Vec F S1024x4096 .bf16) (x5 : Vec F S4096x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outCm x0 x1 x2 x3 x4 x5) ∗ (∃ d, owns (c : Thread nD τ) arg9 fullShare d)) -∗ K ⟨⟩))
      ⊢ wp frame (wpE (defs₀ (F := F)) Variants.none c none) E (cc1__channel_mix_kernel i arg2 harg2 arg3 harg3 arg4 harg4 arg5 harg5 arg6 harg6 arg7 harg7 arg8 harg8 arg9 harg9) K := by
  have hL := cmRun_L c i arg2 harg2 arg3 harg3 arg4 harg4 arg5 harg5 arg6 harg6 arg7 harg7 arg8 harg8 arg9 harg9 x0 x1 x2 x3 x4 x5
  generalize cmRun c i arg2 harg2 arg3 harg3 arg4 harg4 arg5 harg5 arg6 harg6 arg7 harg7 arg8 harg8 arg9 harg9 x0 x1 x2 x3 x4 x5 = r at hL
  obtain ⟨L, LT, hrun⟩ := r
  dsimp only at hL
  subst hL
  iintro ⟨H2, H3, H4, H5, H6, H7, H8, H9, Hk⟩
  iapply (hrun E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H2, H3, H4, H5, H6, H7, ⟨%f8, H8⟩, ⟨%f9, H9⟩⟩
  iapply Hk
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_eq_canon _ _ _ fun y => ⟨_, List.mem_cons_self, cm_cover y⟩
  iexists _; unfold owns; iexists _; isplitr
  swap; · iexact H9
  ipureintro; rfl

-- the contents of every buffer as the region finds them
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's staging buffer holds its block at every point. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The staging memrefs at a point -/

/-- The staging buffer of the activations at a point. -/
abbrev ms1_0 (t : Fin cfg1.N) : Memref sig .tc .vmem S1x1024x1024 .f32 := win1_0.stage (cfg1.slots t 0)
/-- That buffer is whole. -/
abbrev hs1_0 (t : Fin cfg1.N) : (ms1_0 t).IsWhole := hstage1_0 ((cfg1.slots t 0).cast nbuf1_0)
/-- The staging buffer of the scale at a point. -/
abbrev ms1_1 (t : Fin cfg1.N) : Memref sig .tc .vmem S1x1024 .f32 := win1_1.stage (cfg1.slots t 1)
/-- That buffer is whole. -/
abbrev hs1_1 (t : Fin cfg1.N) : (ms1_1 t).IsWhole := hstage1_1 ((cfg1.slots t 1).cast nbuf1_1)
/-- The staging buffer of the shift at a point. -/
abbrev ms1_2 (t : Fin cfg1.N) : Memref sig .tc .vmem S1x1024 .f32 := win1_2.stage (cfg1.slots t 2)
/-- That buffer is whole. -/
abbrev hs1_2 (t : Fin cfg1.N) : (ms1_2 t).IsWhole := hstage1_2 ((cfg1.slots t 2).cast nbuf1_2)
/-- The staging buffer of the receptance weight at a point. -/
abbrev ms1_3 (t : Fin cfg1.N) : Memref sig .tc .vmem S1024x1024 .bf16 := win1_3.stage (cfg1.slots t 3)
/-- That buffer is whole. -/
abbrev hs1_3 (t : Fin cfg1.N) : (ms1_3 t).IsWhole := hstage1_3 ((cfg1.slots t 3).cast nbuf1_3)
/-- The staging buffer of the key weight at a point. -/
abbrev ms1_4 (t : Fin cfg1.N) : Memref sig .tc .vmem S1024x4096 .bf16 := win1_4.stage (cfg1.slots t 4)
/-- That buffer is whole. -/
abbrev hs1_4 (t : Fin cfg1.N) : (ms1_4 t).IsWhole := hstage1_4 ((cfg1.slots t 4).cast nbuf1_4)
/-- The staging buffer of the value weight at a point. -/
abbrev ms1_5 (t : Fin cfg1.N) : Memref sig .tc .vmem S4096x1024 .bf16 := win1_5.stage (cfg1.slots t 5)
/-- That buffer is whole. -/
abbrev hs1_5 (t : Fin cfg1.N) : (ms1_5 t).IsWhole := hstage1_5 ((cfg1.slots t 5).cast nbuf1_5)
/-- The staging buffer of the output at a point. -/
abbrev ms1_6 (t : Fin cfg1.N) : Memref sig .tc .vmem S1x1024x1024 .f32 := win1_6.stage (cfg1.slots t 6)
/-- That buffer is whole. -/
abbrev hs1_6 (t : Fin cfg1.N) : (ms1_6 t).IsWhole := hstage1_6 ((cfg1.slots t 6).cast nbuf1_6)
/-- The scratch, whole. -/
abbrev scM1_0 : Memref sig .tc .vmem S1024x4096 .bf16 := Memref.whole cc1_scratch0

/-- The scoped rest with the scratch as an owned memref. -/
theorem PhiA1_eq (c : Dev nD) :
    (Pipeline.ΦA spec1 c : sProp 𝕄) = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

/-! ## The pipeline's proof data -/

/-- The arrays as the region finds them; inputs' blocks left in place; the output at what the body computes. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outCm (iblk1 V c 0 t) (iblk1 V c 1 t) (iblk1 V c 2 t) (iblk1 V c 3 t) (iblk1 V c 4 t) (iblk1 V c 5 t)
  Φ _ := Pipeline.ΦA spec1 c
  q _ := fullShare
  owed _ := 0

/-- An array of the channel-mix call before its first point is the one the call is entered with. -/
theorem A_eq1 (c : Dev nD) (w : Fin cfg1.W) : (dat1 V c).A w = V c (Pipeline.arrRef spec1 w) := by
  dsimp only [dat1]

/-- After a point the block of the activations is as it was. -/
theorem after1_0 (c : Dev nD) (t : Fin cfg1.N) : (dat1 V c).after 0 t = iblk1 V c 0 t := by dsimp only [dat1]
/-- After a point the block of the scale is as it was. -/
theorem after1_1 (c : Dev nD) (t : Fin cfg1.N) : (dat1 V c).after 1 t = iblk1 V c 1 t := by dsimp only [dat1]
/-- After a point the block of the shift is as it was. -/
theorem after1_2 (c : Dev nD) (t : Fin cfg1.N) : (dat1 V c).after 2 t = iblk1 V c 2 t := by dsimp only [dat1]
/-- After a point the block of the receptance weight is as it was. -/
theorem after1_3 (c : Dev nD) (t : Fin cfg1.N) : (dat1 V c).after 3 t = iblk1 V c 3 t := by dsimp only [dat1]
/-- After a point the block of the key weight is as it was. -/
theorem after1_4 (c : Dev nD) (t : Fin cfg1.N) : (dat1 V c).after 4 t = iblk1 V c 4 t := by dsimp only [dat1]
/-- After a point the block of the value weight is as it was. -/
theorem after1_5 (c : Dev nD) (t : Fin cfg1.N) : (dat1 V c).after 5 t = iblk1 V c 5 t := by dsimp only [dat1]
/-- After a point the block of the output is what the body computed. -/
theorem after1_6 (c : Dev nD) (t : Fin cfg1.N) : (dat1 V c).after 6 t = outCm (iblk1 V c 0 t) (iblk1 V c 1 t) (iblk1 V c 2 t) (iblk1 V c 3 t) (iblk1 V c 4 t) (iblk1 V c 5 t) := by dsimp only [dat1]

/-- Before a point the block of the activations is the array's. -/
theorem before1_0 (c : Dev nD) (t : Fin cfg1.N) (d) : (dat1 V c).before 0 t d = iblk1 V c 0 t :=
  before1_0_of V (dat1 V c) (A_eq1 V c 0) (after1_0 V c) t d
/-- Before a point the block of the scale is the array's. -/
theorem before1_1 (c : Dev nD) (t : Fin cfg1.N) (d) : (dat1 V c).before 1 t d = iblk1 V c 1 t :=
  before1_1_of V (dat1 V c) (A_eq1 V c 1) (after1_1 V c) t d
/-- Before a point the block of the shift is the array's. -/
theorem before1_2 (c : Dev nD) (t : Fin cfg1.N) (d) : (dat1 V c).before 2 t d = iblk1 V c 2 t :=
  before1_2_of V (dat1 V c) (A_eq1 V c 2) (after1_2 V c) t d
/-- Before a point the block of the receptance weight is the array's. -/
theorem before1_3 (c : Dev nD) (t : Fin cfg1.N) (d) : (dat1 V c).before 3 t d = iblk1 V c 3 t :=
  before1_3_of V (dat1 V c) (A_eq1 V c 3) (after1_3 V c) t d
/-- Before a point the block of the key weight is the array's. -/
theorem before1_4 (c : Dev nD) (t : Fin cfg1.N) (d) : (dat1 V c).before 4 t d = iblk1 V c 4 t :=
  before1_4_of V (dat1 V c) (A_eq1 V c 4) (after1_4 V c) t d
/-- Before a point the block of the value weight is the array's. -/
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 1000000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  rw [show (dat1 V c).Φ t.castSucc = Pipeline.ΦA spec1 c from rfl, PhiA1_eq]
  iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩, ⟨%d4, H4⟩, ⟨%d5, H5⟩, ⟨%d6, H6⟩⟩
  iapply (cm_body c (grid1.coords t) _ _ _ _ _ _ _ _ _ _ _ _ _ _ _ _ (iblk1 V c 0 t) (iblk1 V c 1 t) (iblk1 V c 2 t) (iblk1 V c 3 t) (iblk1 V c 4 t) (iblk1 V c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  iintro ⟨H0, H1, H2, H3, H4, H5, H6, HS0⟩
  isplitl [HR0 HR1 HR2 HR3 HR4 HR5 HR6 HR7 HR8 HR9 HR10 HR11 HR12 HR13 HS0 Hg]
  · isplitl [HR0 HR1 HR2 HR3 HR4 HR5 HR6 HR7 HR8 HR9 HR10 HR11 HR12 HR13 HS0]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The second label's body is the channel mix on the point's staging buffers. -/
theorem defs₀_row1 (t : Fin cfg1.N) :
    defs₀ (F := F) .tc cfg1.body (cfg1.bodyArgs t (cfg1.slots t)) = bodyAt1 t := by
  unfold defs₀; rw [Defs.onTc_tc]

/-- The body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Hand

end
-- ==== Proof.LaunchIdeal.lean ====
/- The whole program: its host stretches and its two calls in order, and what every buffer holds at the end. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.TmRegionIdeal
public import proofs.«01_k».proof.Proof.CmRegionIdeal
public import Idealize.ShloMosaic.Lib.Pipeline.FrameBody
public import Idealize.ShloMosaic.Lib.Pipeline.RegionsLoop
public import Idealize.ShloMosaic.Lib.Pipeline.FrameSuffix
public import proofs.«01_k».proof.Proof.Gen.KernelIdeal.Regions
public import Idealize.ShloMosaic.Lib.Ring
public import Idealize.ShloMosaic.Lib.WholeRead
public import Idealize.ShloMosaic.Lib.Pipeline.Value
public import Idealize.ShloMosaic.Lib.Tactic.Stretches
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c => Gen.V0 m c
/-- After the first host stretch: the time-mix call's entry. -/
abbrev W1 : Dev nD → Valuation τ sig (Elt F) := fun c => StableHlo.after hostOps0 (W0 m c)
/-- What the first call is entered with, read from a core. -/
abbrev E1 : (c : Dev nD) → (b : Ref sig .tc) → Buf (Elt F) ((c : Thread nD τ).loc b) := fun c b => W1 m c b

/-- At the exit of call 0: its arrays at what its pipeline leaves, every other buffer as entered. -/
def W2 (c : Dev nD) : Valuation τ sig (Elt F) :=
  Pipeline.withArrays spec0 c (W1 m c) fun w => (dat0 (E1 m) c).arrAt w cfg0.N
/-- After the first call each of its arrays is what its points made of it. -/
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
/-- The first call leaves every buffer that is none of its arrays. -/
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- A buffer that is none of the call's output arrays keeps its entry contents. -/
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((dat0 (E1 m) c).arrAt_in w (h w rfl) _).trans (A_eq0 (E1 m) c w))
  · exact W2_of_ne m c r fun w e => hw ⟨w, e⟩
/-- What the second call is entered with, read from a core. -/
abbrev E2 : (c : Dev nD) → (b : Ref sig .tc) → Buf (Elt F) ((c : Thread nD τ).loc b) := fun c b => W2 m c b
/-- The first call's arrays at its end, as the second call is entered with them. -/
theorem hF0 (c : Dev nD) (w : Fin cfg0.W) : (dat0 (E1 m) c).arrAt w cfg0.N = E2 m c (Pipeline.arrRef spec0 w) :=
  (W2_arr m c w).symm
/-- Every other buffer goes through the first call unchanged. -/
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- At the exit of call 1: its arrays at what its pipeline leaves, every other buffer as entered. -/
def W3 (c : Dev nD) : Valuation τ sig (Elt F) :=
  Pipeline.withArrays spec1 c (W2 m c) fun w => (dat1 (E2 m) c).arrAt w cfg1.N
/-- After the second call each of its arrays is what its points made of it. -/
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
/-- The second call leaves every buffer that is none of its arrays. -/
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- A buffer that is none of the call's output arrays keeps its entry contents. -/
theorem W3_of (c : Dev nD) (r : Ref sig .tc) (h : ∀ w : Fin cfg1.W, Pipeline.arrRef spec1 w = r → (cfg1.win w).isOut = false) :
    W3 m c (Proc.devRef .tc r) = W2 m c (Proc.devRef .tc r) := by
  by_cases hw : ∃ w : Fin cfg1.W, Pipeline.arrRef spec1 w = r
  · obtain ⟨w, rfl⟩ := hw
    exact (W3_arr m c w).trans (((dat1 (E2 m) c).arrAt_in w (h w rfl) _).trans (A_eq1 (E2 m) c w))
  · exact W3_of_ne m c r fun w e => hw ⟨w, e⟩
/-- What the second call leaves, read from a core. -/
abbrev E3 : (c : Dev nD) → (b : Ref sig .tc) → Buf (Elt F) ((c : Thread nD τ).loc b) := fun c b => W3 m c b
/-- The second call's arrays at its end, as the host code goes on with them. -/
theorem hF1 (c : Dev nD) (w : Fin cfg1.W) : (dat1 (E2 m) c).arrAt w cfg1.N = E3 m c (Pipeline.arrRef spec1 w) :=
  (W3_arr m c w).symm
/-- Every other buffer goes through the second call unchanged. -/
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-- After the last host stretch. -/
abbrev W4 : Dev nD → Valuation τ sig (Elt F) := fun c => StableHlo.after hostOps2 (W3 m c)

/-- The eighteen arguments. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17]
/-- An argument among the first call's arrays is read only. -/
theorem argsIn0 : ∀ a ∈ argRefs, ∀ w : Fin cfg0.W, Pipeline.arrRef spec0 w = a → (cfg0.win w).isOut = false :=
  ListAll.forall_mem_of_all_decide (by decide +kernel)
/-- An argument among the second call's arrays is read only. -/
theorem argsIn1 : ∀ a ∈ argRefs, ∀ w : Fin cfg1.W, Pipeline.arrRef spec1 w = a → (cfg1.win w).isOut = false :=
  ListAll.forall_mem_of_all_decide (by decide +kernel)
/-- The host code before the calls writes no argument. -/
theorem argsH0 : ∀ a ∈ argRefs, a ∉ hostOps0_W := by decide
/-- The host code after the calls writes no argument. -/
theorem argsH2 : ∀ a ∈ argRefs, a ∉ hostOps2_W := by decide

/-- Every argument ends as launched. -/
theorem W4_args (c : Dev nD) (a : Ref sig .tc) (ha : a ∈ argRefs) : W4 m c (Proc.devRef .tc a) = m ((c : Thread nD τ).loc a) :=
  (StableHlo.after_of_writes_sub hostOps2 _ hostOps2_writes (argsH2 a ha)).trans <|
    (W3_of m c a (argsIn1 a ha)).trans <| (W2_of m c a (argsIn0 a ha)).trans <|
      StableHlo.after_of_writes_sub hostOps0 _ hostOps0_writes (argsH0 a ha)

/-! ## The proof data family and the thread state -/

/-- The two calls' pipelines are admissible. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
/-- No loop needs a variant. -/
abbrev 𝒱₀ : Variants := Variants.none
/-- No semaphore carries a ledger. -/
abbrev L : GSem nD τ sig → Finset Unit := fun _ => ∅
/-- Every ledger's level is zero. -/
abbrev lv : GSem nD τ sig → Unit → ℕ := fun _ _ => 0
/-- What rides beside the buffers through every segment. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A buffer outside every scope is among those a core holds throughout. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state. -/
abbrev Tₙ (c : Dev nD) : sProp 𝕄 := iprop(StableHlo.held (c : Thread nD τ) (Pipeline.ucRefs τ sig) (W4 m c) ∗ ∃ r, prngReg c r)

/-! ## The time-mix call's invariant at its ends -/

/-- The scratch the first call is given, at whatever it holds, is the invariant before the first point. -/
theorem Phi0_in (c : Dev nD) : (Pipeline.ΦA spec0 c : sProp 𝕄) ⊢ (dat0 (E1 m) c).Φ 0 := by
  rw [PhiA0_eq, show (dat0 (E1 m) c).Φ 0 = iprop(iprop((∃ xs, ⌜(0 : Fin (cfg0.N + 1)).val % 8 ≠ 0 → rows xs = cin (E1 m) c (0 : Fin (cfg0.N + 1)).val⌝ ∗ owns (c : Thread nD τ) scM0_0 fullShare xs) ∗ rest0 c) ∗ (∃ r, prngReg c r)) from rfl]
  iintro ⟨⟨⟨%d, HS⟩, HR⟩, Hg⟩
  isplitl [HS HR]
  · isplitl [HS]
    · iexists d; isplitr
      · ipureintro; intro h; exact absurd rfl h
      iexact HS
    iexact HR
  iexact Hg

/-- The invariant after any number of points gives the scratch back. -/
theorem Phi0_out (c : Dev nD) (t : Fin (cfg0.N + 1)) : (dat0 (E1 m) c).Φ t ⊢ (Pipeline.ΦA spec0 c : sProp 𝕄) := by
  rw [PhiA0_eq, show (dat0 (E1 m) c).Φ t = iprop(iprop((∃ xs, ⌜t.val % 8 ≠ 0 → rows xs = cin (E1 m) c t.val⌝ ∗ owns (c : Thread nD τ) scM0_0 fullShare xs) ∗ rest0 c) ∗ (∃ r, prngReg c r)) from rfl]
  iintro ⟨⟨⟨%d, -, HS⟩, HR⟩, Hg⟩
  isplitl [HS HR]
  · isplitl [HS]
    · iexists d; iexact HS
    iexact HR
  iexact Hg

/-! ## The regions as segments -/

-- the library's lemmas over a pinned configuration unify only when unification may unfold plain definitions in types
set_option backward.isDefEq.respectTransparency.types false in
/-- Call 0 over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) (A_eq0 (E1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Phi0_in m c)
    unfold Pipeline.ΦA
    iintro ⟨Hp, -, Hr⟩
    isplitl [Hr]; · iexact Hr
    iexact Hp
  hout c := by
    rw [Pipeline.ownSems0_none]
    refine BIBase.Entails.trans (Phi0_out m c (Fin.last _)) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas over a pinned configuration unify only when unification may unfold plain definitions in types
set_option backward.isDefEq.respectTransparency.types false in
/-- Call 1 over the thread state: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) (A_eq1 (E2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The program as segments: host code, the two calls, host code. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
/-- The main program runs the segments. -/
theorem main_segs (c : Dev nD) : main (F := F) c = Pipeline.Seg.run (segs m) := (main_chain c).trans (by chain_rfl)

/-- Every semaphore is within a scope. -/
theorem no_unscoped : ∀ sm : SemLoc sig, sm.isScoped .tc = true := by decide

set_option backward.isDefEq.respectTransparency.types false in
/-- The whole program terminates, nothing faulting; every unscoped buffer ends at `W4` and every semaphore at zero. -/
theorem run (Q : PUnit × MemSt nD τ sig (Elt F) → Prop)
    (hQ : ∀ s : MemSt nD τ sig (Elt F), (∀ c : Dev nD, ∀ b ∈ Pipeline.ucRefs τ sig, s.mem (((c : Thread nD τ)).1, b) = W4 m c b) → (s.sem = fun _ => 0) → Q (⟨⟩, s)) :
    θ_run defs (onTc (τ := τ) (main (F := F))) ⟨m, fun _ => 0, ρ⟩ Q :=
  Pipeline.θ_run_regions_kit_sems (pcfgs (F := F)) adm (pdats m) () cellOf_inj emb₁ defs₀ 𝒱₀ L lv m ρ main (segs m)
    (fun c Q => by rw [main_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h hz => hQ s h (funext fun g => hz g (.inr (no_unscoped g.2))))

/-- An argument, read at the end. -/
theorem end_arg {s : MemSt nD τ sig (Elt F)} {c : Dev nD} (h : ∀ b ∈ Pipeline.ucRefs τ sig, s.mem (((c : Thread nD τ)).1, b) = W4 m c b)
    (a : Ref sig .tc) (ha : a ∈ argRefs) (hu : ¬ (Proc.devRef .tc a : DevRef τ sig).isScoped) :
    s.mem ((c.tc : Thread nD τ).loc a) = m ((c.tc : Thread nD τ).loc a) :=
  (h _ (mem_uc a hu)).trans (W4_args m c a ha)

/-- The frame: the program terminates, nothing faulting, its arguments as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  run m ρ _ fun s h hz => ⟨fun c => ⟨end_arg m (h c) main_arg0 (by decide) (by decide),
    end_arg m (h c) main_arg1 (by decide) (by decide),
    end_arg m (h c) main_arg2 (by decide) (by decide),
    end_arg m (h c) main_arg3 (by decide) (by decide),
    end_arg m (h c) main_arg4 (by decide) (by decide),
    end_arg m (h c) main_arg5 (by decide) (by decide),
    end_arg m (h c) main_arg6 (by decide) (by decide),
    end_arg m (h c) main_arg7 (by decide) (by decide),
    end_arg m (h c) main_arg8 (by decide) (by decide),
    end_arg m (h c) main_arg9 (by decide) (by decide),
    end_arg m (h c) main_arg10 (by decide) (by decide),
    end_arg m (h c) main_arg11 (by decide) (by decide),
    end_arg m (h c) main_arg12 (by decide) (by decide),
    end_arg m (h c) main_arg13 (by decide) (by decide),
    end_arg m (h c) main_arg14 (by decide) (by decide),
    end_arg m (h c) main_arg15 (by decide) (by decide),
    end_arg m (h c) main_arg16 (by decide) (by decide),
    end_arg m (h c) main_arg17 (by decide) (by decide)⟩, hz⟩

end Cert.KernelIdeal.Hand

end
-- ==== Proof.Same.lean ====
/- The kernel as printed for the float words and as printed for the reals is one program: the frame of the one is the other's. -/
module

public import proofs.«01_k».proof.Defs
public import proofs.«01_k».proof.Proof.LaunchIdeal
public import proofs.«01_k».proof.Proof.Gen.Kernel

@[expose] public section

noncomputable section

namespace Cert.Kernel.Hand

open Idealize.ShloMosaic Idealize.ShloMosaic.TcCoe Idealize.SL.Sem
attribute [local instance] Cert.KernelIdeal.Gen.facts Cert.Kernel.Gen.facts
variable {F : FTy → Type} [FloatOps F]

set_option maxHeartbeats 1000000 in
/-- The two printings' body tables agree label by label. -/
theorem defs₀_eq : @Cert.Kernel.defs₀ F _ _ = @Cert.KernelIdeal.defs₀ F _ _ := by
  funext k l a
  match k with
  | .scScalar _ => rfl
  | .scVector _ _ => rfl
  | .tc =>
    match l, a with
    | 0, (t, s) => rfl
    | 1, (t, s) => rfl
    | ⟨_ + 2, h⟩, _ => exact absurd h (Nat.not_lt.2 (Nat.le_add_left _ _))

/-- The two printings define the same bodies. -/
theorem defs_eq : @Cert.Kernel.defs F _ _ = @Cert.KernelIdeal.defs F _ _ := congrArg (Pipeline.defs pcfgs) defs₀_eq

/-- The two printings are the same main program. -/
theorem main_eq : @Cert.Kernel.main F _ _ = @Cert.KernelIdeal.main F _ _ := rfl

/-- The frame of the kernel as printed, at every float interpretation: it ends, nothing faulting, its arguments as launched and every
    semaphore at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) := by
  rw [defs_eq, main_eq]
  exact Cert.KernelIdeal.Hand.frame (F := F) m ρ

end Cert.Kernel.Hand

end
-- ==== Proof.Wkv.lean ====
/- The weighted average of one channel along time, on the extended reals: what a step of the recurrence makes of the state,
   and what a chunk of 256 steps makes of the carry, are the same real sequences. -/
module

public import Idealize.ShloMosaic.Lib.Pointwise
public import Mathlib.Analysis.SpecialFunctions.Log.Basic

@[expose] public section

noncomputable section

namespace Cert.Wkv

open Idealize.ShloMosaic

/-! ## The sequences -/

/-- A finite sum of reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The larger of two reals. -/
theorem coe_max (x y : ℝ) : ((max x y : ℝ) : EReal) = max (x : EReal) (y : EReal) := EReal.coe_strictMono.monotone.map_max

/-- The smaller of two reals. -/
theorem coe_min (x y : ℝ) : ((min x y : ℝ) : EReal) = min (x : EReal) (y : EReal) := EReal.coe_strictMono.monotone.map_min

section Seq

variable (K V : ℕ → ℝ) (u : ℝ)

/-- The sum of the exponentials of the keys before `t`. -/
def Z (t : ℕ) : ℝ := ∑ s ∈ Finset.range t, Real.exp (K s)

/-- Its logarithm: minus infinity before the first key. -/
def P (t : ℕ) : EReal := Ideal.log ((Z K t : ℝ) : EReal)

/-- The logarithm of the factor by which step `t` scales the average. -/
def g (t : ℕ) : ℝ := if t = 0 then 0 else min 0 (Real.log (Z K t) - K t)

/-- The larger of the running logarithm and the key. -/
def lm (t : ℕ) : ℝ := if t = 0 then K t else max (Real.log (Z K t)) (K t)

/-- The accumulated value before step `t`. -/
def A : ℕ → ℝ
  | 0 => 0
  | t + 1 => Real.exp (g K t) * A t + Real.exp (K t - lm K t) * V t

/-- The weighted average step `t` puts out, with the bonus `u` for the present key. -/
def W (t : ℕ) : ℝ :=
  if t = 0 then V t
  else A K V t + 1 / (1 + Real.exp (-(u + K t - Real.log (Z K t)))) * (V t - A K V t)

/-- The sum is positive after the first key. -/
theorem Z_pos {t : ℕ} (ht : t ≠ 0) : 0 < Z K t :=
  Finset.sum_pos (fun _ _ => Real.exp_pos _) (Finset.nonempty_range_iff.mpr ht)

/-- No key, no sum. -/
theorem Z_zero : Z K 0 = 0 := by simp [Z]

/-- One more key. -/
theorem Z_succ (t : ℕ) : Z K (t + 1) = Z K t + Real.exp (K t) := by simp [Z, Finset.sum_range_succ]

/-- The logarithm on the extended reals at a positive real. -/
theorem log_pos {r : ℝ} (h : 0 < r) : Ideal.log ((r : ℝ) : EReal) = ((Real.log r : ℝ) : EReal) := by
  show (if r ≤ 0 then (⊥ : EReal) else (Real.log r : EReal)) = _
  rw [if_neg (not_le.mpr h)]

/-- The logarithm on the extended reals at zero. -/
theorem log_zero : Ideal.log ((0 : ℝ) : EReal) = ⊥ := by
  show (if (0 : ℝ) ≤ 0 then (⊥ : EReal) else (Real.log 0 : EReal)) = _
  rw [if_pos le_rfl]

/-- The exponential on the extended reals at a real. -/
theorem exp_coe (r : ℝ) : Ideal.exp ((r : ℝ) : EReal) = ((Real.exp r : ℝ) : EReal) := rfl

/-- The exponential of minus infinity. -/
theorem exp_bot : Ideal.exp ⊥ = 0 := rfl

/-- The running logarithm starts at minus infinity. -/
theorem P_zero : P K 0 = ⊥ := by rw [P, Z_zero, log_zero]

/-- The running logarithm is real after the first key. -/
theorem P_pos {t : ℕ} (ht : t ≠ 0) : P K t = ((Real.log (Z K t) : ℝ) : EReal) := log_pos (Z_pos K ht)

/-- The larger of the running logarithm and the key is real. -/
theorem max_P (t : ℕ) : max (P K t) ((K t : ℝ) : EReal) = ((lm K t : ℝ) : EReal) := by
  by_cases h : t = 0
  · subst h; rw [P_zero, lm, if_pos rfl]; exact bot_sup_eq _
  · rw [P_pos K h, lm, if_neg h]; exact (coe_max _ _).symm

/-- The factor by which step `t` scales the average, after the first key. -/
theorem g_eq {t : ℕ} (ht : t ≠ 0) : g K t = Real.log (Z K t) - lm K t := by
  rw [g, lm, if_neg ht, if_neg ht]
  rcases le_total (Real.log (Z K t)) (K t) with h | h
  · rw [max_eq_right h, min_eq_right (by linarith)]
  · rw [max_eq_left h, min_eq_left (by linarith)]; ring

/-! ## One step of the recurrence -/

/-- The step's accumulated value. -/
theorem step_A (t : ℕ) :
    Ideal.exp (P K t - max (P K t) (K t : EReal)) * (A K V t : EReal)
        + Ideal.exp ((K t : EReal) - max (P K t) (K t : EReal)) * (V t : EReal)
      = ((A K V (t + 1) : ℝ) : EReal) := by
  rw [max_P, A]
  by_cases h : t = 0
  · subst h
    rw [P_zero]
    simp only [A, EReal.coe_zero, mul_zero, zero_add]
    rw [← EReal.coe_sub, exp_coe, ← EReal.coe_mul]
  · rw [P_pos K h, ← EReal.coe_sub, ← EReal.coe_sub, exp_coe, exp_coe, ← g_eq K h, EReal.coe_add, EReal.coe_mul, EReal.coe_mul]

/-- The step's running logarithm. -/
theorem step_P (t : ℕ) :
    max (P K t) (K t : EReal) + Ideal.log (Ideal.exp (P K t - max (P K t) (K t : EReal))
        + Ideal.exp ((K t : EReal) - max (P K t) (K t : EReal)))
      = P K (t + 1) := by
  rw [max_P, P_pos K (Nat.succ_ne_zero t), Z_succ]
  by_cases h : t = 0
  · subst h
    rw [P_zero, lm, if_pos rfl, EReal.bot_sub, exp_bot, zero_add, ← EReal.coe_sub, exp_coe, log_pos (Real.exp_pos _), ← EReal.coe_add,
      Z_zero, zero_add, Real.log_exp, Real.log_exp]
    congr 1; ring
  · have hz := Z_pos K h
    rw [P_pos K h, ← EReal.coe_sub, ← EReal.coe_sub, exp_coe, exp_coe, ← EReal.coe_add,
      log_pos (add_pos (Real.exp_pos _) (Real.exp_pos _)), ← EReal.coe_add]
    congr 1
    rw [Real.exp_sub, Real.exp_sub, Real.exp_log hz, ← add_div,
      Real.log_div (add_pos hz (Real.exp_pos _)).ne' (Real.exp_pos _).ne', Real.log_exp]
    ring

/-- A quotient of reals by a real that is not zero. -/
theorem div_coe {x y : ℝ} (h : y ≠ 0) : Ideal.div (x : EReal) (y : EReal) = ((x / y : ℝ) : EReal) := by
  unfold Ideal.div
  rw [if_neg (by exact_mod_cast h), ← EReal.coe_inv, ← EReal.coe_mul, div_eq_mul_inv]

/-- The step's weighted average. -/
theorem step_W (t : ℕ) :
    Ideal.div (Ideal.exp (P K t - max (P K t) ((u : EReal) + (K t : EReal))) * (A K V t : EReal)
          + Ideal.exp (((u : EReal) + (K t : EReal)) - max (P K t) ((u : EReal) + (K t : EReal))) * (V t : EReal))
        (Ideal.exp (P K t - max (P K t) ((u : EReal) + (K t : EReal)))
          + Ideal.exp (((u : EReal) + (K t : EReal)) - max (P K t) ((u : EReal) + (K t : EReal))))
      = ((W K V u t : ℝ) : EReal) := by
  rw [← EReal.coe_add, W]
  by_cases h : t = 0
  · subst h
    rw [P_zero, if_pos rfl, max_eq_right bot_le, EReal.bot_sub, exp_bot, zero_mul, zero_add, zero_add, ← EReal.coe_sub, sub_self, exp_coe,
      Real.exp_zero, ← EReal.coe_mul, one_mul, div_coe one_ne_zero, div_one]
  · rw [P_pos K h, if_neg h, ← coe_max]
    generalize hp : max (Real.log (Z K t)) (u + K t) = p
    rw [← EReal.coe_sub, ← EReal.coe_sub, exp_coe, exp_coe, ← EReal.coe_mul, ← EReal.coe_mul, ← EReal.coe_add, ← EReal.coe_add,
      div_coe (add_pos (Real.exp_pos _) (Real.exp_pos _)).ne']
    congr 1
    have h1 : Real.exp (-(u + K t - Real.log (Z K t))) = Real.exp (Real.log (Z K t) - p) / Real.exp (u + K t - p) := by
      rw [← Real.exp_sub]; congr 1; ring
    rw [h1]
    have e1 := Real.exp_pos (Real.log (Z K t) - p)
    have e2 := Real.exp_pos (u + K t - p)
    field_simp
    ring

/-! ## A chunk of 256 steps -/

/-- A row of the strict lower triangle sums what comes before. -/
theorem sum_tri (f : ℕ → ℝ) {t : ℕ} (ht : t ≤ 256) :
    ∑ x : Fin 256, (if (x : ℕ) < t then (1 : EReal) else 0) * ((f x : ℝ) : EReal) = ((∑ s ∈ Finset.range t, f s : ℝ) : EReal) := by
  have h : ∀ x : Fin 256, (if (x : ℕ) < t then (1 : EReal) else 0) * ((f x : ℝ) : EReal)
      = (((if (x : ℕ) < t then f x else 0 : ℝ)) : EReal) := by
    intro x; split <;> simp
  rw [Finset.sum_congr rfl fun x _ => h x, Fin.sum_univ_eq_sum_range (fun s => (((if s < t then f s else 0 : ℝ)) : EReal)) 256,
    ← coe_sum]
  congr 1
  rw [← Finset.sum_filter]
  congr 1
  ext s; simp only [Finset.mem_filter, Finset.mem_range]; omega

/-- The whole sum. -/
theorem sum_all (f : ℕ → ℝ) : ∑ x : Fin 256, ((f x : ℝ) : EReal) = ((∑ s ∈ Finset.range 256, f s : ℝ) : EReal) := by
  rw [Fin.sum_univ_eq_sum_range (fun s => ((f s : ℝ) : EReal)) 256, ← coe_sum]

variable (T : ℕ) (μ μ' : ℝ)

/-- The chunk's running sum, scaled to the new shift. -/
theorem chunk_Z (t : ℕ) :
    Real.exp (μ - μ') * (Z K T * Real.exp (-μ)) + ∑ s ∈ Finset.range t, Real.exp (K (T + s) - μ') = Z K (T + t) * Real.exp (-μ') := by
  have h : Z K (T + t) = Z K T + ∑ s ∈ Finset.range t, Real.exp (K (T + s)) := by
    simp [Z, Finset.sum_range_add]
  rw [h, add_mul, Finset.sum_mul]
  congr 1
  · rw [mul_comm, mul_assoc, ← Real.exp_add]; congr 2; ring
  · exact Finset.sum_congr rfl fun s _ => by rw [← Real.exp_add]; congr 1

/-- The chunk's running logarithm. -/
theorem chunk_P (t : ℕ) : (μ' : EReal) + Ideal.log ((Z K t * Real.exp (-μ') : ℝ) : EReal) = P K t := by
  by_cases h : t = 0
  · subst h; rw [Z_zero, zero_mul, log_zero, P_zero, EReal.add_bot]
  · have hz := Z_pos K h
    rw [log_pos (mul_pos hz (Real.exp_pos _)), P_pos K h, ← EReal.coe_add, Real.log_mul hz.ne' (Real.exp_pos _).ne', Real.log_exp]
    congr 1; ring

/-- The chunk's scale factors. -/
theorem chunk_g (t : ℕ) :
    (if (0 : EReal) < ((Z K t * Real.exp (-μ') : ℝ) : EReal) then min 0 (P K t - (K t : EReal)) else 0) = ((g K t : ℝ) : EReal) := by
  by_cases h : t = 0
  · subst h; rw [Z_zero, zero_mul, g, if_pos rfl, if_neg (by simp), EReal.coe_zero]
  · have hz : (0 : EReal) < ((Z K t * Real.exp (-μ') : ℝ) : EReal) := by
      exact_mod_cast mul_pos (Z_pos K h) (Real.exp_pos _)
    rw [if_pos hz, P_pos K h, g, if_neg h, ← EReal.coe_sub, ← EReal.coe_zero]
    exact (coe_min _ _).symm

/-- The sum of the scale factors' logarithms in the chunk before its `t`-th step. -/
def G (t : ℕ) : ℝ := ∑ s ∈ Finset.range t, g K (T + s)

/-- A step's addend, divided by all the factors up to it. -/
def E (t : ℕ) : ℝ := Real.exp (K (T + t) - lm K (T + t) - (G K T t + g K (T + t))) * V (T + t)

/-- The chunk's addends. -/
theorem chunk_E (t : ℕ) :
    Ideal.exp ((K (T + t) : EReal) - max (P K (T + t)) (K (T + t) : EReal) - (((G K T t : ℝ) : EReal) + ((g K (T + t) : ℝ) : EReal)))
        * (V (T + t) : EReal)
      = ((E K V T t : ℝ) : EReal) := by
  rw [max_P, ← EReal.coe_sub, ← EReal.coe_add, ← EReal.coe_sub, exp_coe, ← EReal.coe_mul, E]

/-- The chunk's accumulated values are the recurrence's. -/
theorem chunk_A (t : ℕ) : Real.exp (G K T t) * (A K V T + ∑ s ∈ Finset.range t, E K V T s) = A K V (T + t) := by
  induction t with
  | zero => simp [G]
  | succ t ih =>
    have hG : G K T (t + 1) = G K T t + g K (T + t) := by simp [G, Finset.sum_range_succ]
    rw [Finset.sum_range_succ, ← add_assoc, mul_add, hG, Real.exp_add, mul_comm (Real.exp (G K T t)), mul_assoc, ih, ← add_assoc, A, E]
    congr 1
    rw [← mul_assoc, ← Real.exp_add, ← Real.exp_add]
    congr 2; ring

/-- The chunk's weighted averages are the recurrence's. -/
theorem chunk_W (t : ℕ) :
    (A K V t : EReal) + Ideal.logistic ((u : EReal) + (K t : EReal) - P K t) * ((V t : EReal) - (A K V t : EReal))
      = ((W K V u t : ℝ) : EReal) := by
  rw [← EReal.coe_add, ← EReal.coe_sub]
  unfold Ideal.logistic
  by_cases h : t = 0
  · subst h
    rw [P_zero, W, if_pos rfl, EReal.coe_sub_bot, EReal.neg_top, exp_bot, add_zero, A, ← EReal.coe_one, div_coe one_ne_zero, ← EReal.coe_mul,
      ← EReal.coe_add]
    congr 1; simp
  · rw [P_pos K h, W, if_neg h, ← EReal.coe_sub, ← EReal.coe_neg, exp_coe, ← EReal.coe_one, ← EReal.coe_add,
      div_coe (add_pos one_pos (Real.exp_pos _)).ne', ← EReal.coe_mul, ← EReal.coe_add]

end Seq

/-- The logistic function of any extended real is real. -/
theorem logistic_real (x : EReal) : ∃ r : ℝ, Ideal.logistic x = (r : EReal) := by
  unfold Ideal.logistic
  induction x with
  | bot => exact ⟨0, by rw [EReal.neg_bot]; show Ideal.div 1 (1 + ⊤) = _; rw [show (1 : EReal) + ⊤ = ⊤ from EReal.add_top_of_ne_bot (by decide), Ideal.div, if_neg (by decide), EReal.inv_top, mul_zero, EReal.coe_zero]⟩
  | top => exact ⟨1, by rw [EReal.neg_top, exp_bot, add_zero, ← EReal.coe_one, div_coe one_ne_zero, div_one]⟩
  | coe r => exact ⟨1 / (1 + Real.exp (-r)), by
      rw [← EReal.coe_neg, exp_coe, ← EReal.coe_one, ← EReal.coe_add, div_coe (add_pos one_pos (Real.exp_pos _)).ne']⟩

end Cert.Wkv

end
-- ==== Proof.TmVal.lean ====
/- What one batch row of the time-mix body computes, at one channel, on the extended reals. -/
module

public import proofs.«01_k».proof.Proof.TmRowIdeal
public import proofs.«01_k».proof.Proof.Wkv
public import Idealize.ShloMosaic.Lib.Pointwise
public import Idealize.ShloMosaic.Lib.IdealHost

@[expose] public section

noncomputable section

namespace Cert.KernelIdeal.Hand

open Cert.KernelIdeal Cert.KernelIdeal.Gen
open Idealize.ShloMosaic
open Cert.Wkv

/-- The pattern of minus infinity. -/
theorem ofBits_ninf : Ideal.ofBits .f32 0xFF800000#32 = ⊥ := by
  simp [Ideal.ofBits, Ideal.ieee]

/-- The pattern the running maximum begins with is a real. -/
theorem ofBits_neg : ∃ r : ℝ, Ideal.ofBits .f32 0xF149F2CA#32 = (r : EReal) := by
  simp only [Ideal.ofBits, Ideal.ieee]
  rw [if_neg (by decide), if_neg (by decide)]
  exact ⟨_, rfl⟩

/-- The strict lower triangle as zeros and ones. -/
theorem tri_val (t s : Fin 256) :
    (FloatOps.sitofp (F := Ideal) .f32 (BitVec.setWidth 32 (IntOp.cmpi .sgt (BitVec.ofNat 32 (t : ℕ)) (BitVec.ofNat 32 (s : ℕ)))) : EReal)
      = if (s : ℕ) < t then 1 else 0 := by
  have h : IntOp.cmpi .sgt (BitVec.ofNat 32 (t : ℕ)) (BitVec.ofNat 32 (s : ℕ)) = if (s : ℕ) < t then 1#1 else 0#1 := by
    rw [WordCmp.cmpi_sgt_ofNat (by have := t.isLt; norm_num; omega) (by have := s.isLt; norm_num; omega)]
    by_cases h : (s : ℕ) < t
    · rw [if_pos h, decide_eq_true h]; rfl
    · rw [if_neg h, decide_eq_false h]; rfl
  rw [h]
  split
  · show (((1 : ℤ) : ℝ) : EReal) = 1
    norm_num
  · show (((0 : ℤ) : ℝ) : EReal) = 0
    norm_num

/-- A maximum of reals from minus infinity, and of one real more, is real. -/
theorem fold_max_real (f : Fin 256 → EReal) (hf : ∀ x, ∃ r : ℝ, f x = r) (μ : ℝ) :
    ∃ μ' : ℝ, max (μ : EReal) (Finset.fold max ⊥ f Finset.univ) = (μ' : EReal) := by
  have h : Finset.fold max ⊥ f Finset.univ < ⊤ :=
    (Finset.fold_max_lt _).mpr ⟨by simp, fun x _ => by obtain ⟨r, hr⟩ := hf x; rw [hr]; exact EReal.coe_lt_top r⟩
  refine ⟨(max (μ : EReal) (Finset.fold max ⊥ f Finset.univ)).toReal, (EReal.coe_toReal ?_ ?_).symm⟩
  · exact (max_lt (EReal.coe_lt_top μ) h).ne
  · exact (lt_of_lt_of_le (EReal.bot_lt_coe μ) (le_max_left _ _)).ne'

section Row

variable (k v : FVec Ideal S256x1024 .f32) (m z a : Vec Ideal S1x1x1024 .f32) (c : Fin 1024)

/-- The new shift is real. -/
theorem pay15_real (hk : ∀ t : Fin 256, ∃ r : ℝ, k (ix2 t c) = (r : EReal)) (hm : ∃ r : ℝ, m (ix3 0 0 c) = (r : EReal)) :
    ∃ μ' : ℝ, k0_pay15 k m (ix2 0 c) = (μ' : EReal) := by
  obtain ⟨μ, hμ⟩ := hm
  have h : (k0_pay15 k m (ix2 0 c) : EReal) = max (m (ix3 0 0 c)) (Finset.fold max (Ideal.ofBits FTy.f32 4286578688#32) (fun x => k (ix2 x c)) Finset.univ) := by
    pointwise! [k0_pay15, k0_pay12]
  rw [h, hμ, ofBits_ninf]
  exact fold_max_real _ hk μ

/-- The shift's reshaping. -/
theorem pay16_apply : (k0_pay16 k m (ix2 0 c) : EReal) = Ideal.exp (m (ix3 0 0 c) - k0_pay15 k m (ix2 0 c)) := by
  pointwise! [k0_pay16, k0_pay12]

/-- The keys' exponentials against the new maximum. -/
theorem pay17_apply (t : Fin 256) : (k0_pay17 k m (ix2 t c) : EReal) = Ideal.exp (k (ix2 t c) - k0_pay15 k m (ix2 0 c)) := by
  pointwise! [k0_pay17]

/-- The strictly lower triangular matrix of ones. -/
theorem pay18_apply (t s : Fin 256) : (k0_pay18 (F := Ideal) (ix2 t s) : EReal) = if (s : ℕ) < t then 1 else 0 := by
  rw [← tri_val t s]
  pointwise! [k0_pay18]

/-- The running sum as a row. -/
theorem pay13_apply : (k0_pay13 z (ix2 0 c) : EReal) = z (ix3 0 0 c) := by
  pointwise! [k0_pay13]

/-- The running average as a row. -/
theorem pay14_apply : (k0_pay14 a (ix2 0 c) : EReal) = a (ix3 0 0 c) := by
  pointwise! [k0_pay14]

/-- The sum of exponentials before each step of the chunk. -/
theorem pay19_apply (t : Fin 256) : (k0_pay19 k m z (ix2 t c) : EReal)
    = k0_pay16 k m (ix2 0 c) * z (ix3 0 0 c) + ∑ x : Fin 256, k0_pay18 (F := Ideal) (ix2 t x) * k0_pay17 k m (ix2 x c) := by
  pointwise! [k0_pay19, k0_pay13]

/-- The log-normalizer before each step of the chunk. -/
theorem pay20_apply (t : Fin 256) : (k0_pay20 k m z (ix2 t c) : EReal)
    = k0_pay15 k m (ix2 0 c) + Ideal.log (k0_pay19 k m z (ix2 t c)) := by
  pointwise! [k0_pay20]

/-- The logarithm of the weight that each step leaves on the average before it, zero where nothing came before. -/
theorem pay21_apply (t : Fin 256) : (k0_pay21 k m z (ix2 t c) : EReal)
    = if 0 < (k0_pay19 k m z (ix2 t c) : EReal) then min 0 (k0_pay20 k m z (ix2 t c) - k (ix2 t c)) else 0 := by
  pointwise! [k0_pay21]

/-- Those logarithms summed over the steps before. -/
theorem pay22_apply (t : Fin 256) : (k0_pay22 k m z (ix2 t c) : EReal)
    = ∑ x : Fin 256, k0_pay18 (F := Ideal) (ix2 t x) * k0_pay21 k m z (ix2 x c) := by
  pointwise! [k0_pay22]

variable (p q r : FVec Ideal S256x1024 .f32) (X : FVec Ideal S256x1024 .f32) (R : FVec Ideal S256x1024 .f32)
  (a2 m2 z2 : FVec Ideal S1x1024 .f32) (tf td : Vec Ideal S1x1024 .f32) (tri : FVec Ideal S256x256 .bf16)

/-- Each step's value, rescaled to the weights accumulated so far. -/
theorem pay23_apply (t : Fin 256) : (k0_pay23 k v p q r (ix2 t c) : EReal)
    = Ideal.exp (k (ix2 t c) - max (p (ix2 t c)) (k (ix2 t c)) - (r (ix2 t c) + q (ix2 t c))) * v (ix2 t c) := by
  pointwise! [k0_pay23]

/-- The time mix's output at each step of the chunk. -/
theorem pay24_apply (t : Fin 256) : (k0_pay24 X k v R a2 tri p q r tf (ix3 0 t c) : EReal)
    = X (ix2 t c) + R (ix2 t c) * (Ideal.exp (r (ix2 t c)) * (a2 (ix2 0 c) + ∑ x : Fin 256, tri (ix2 t x) * k0_pay23 k v p q r (ix2 x c))
      + Ideal.logistic (tf (ix2 0 c) + k (ix2 t c) - p (ix2 t c))
        * (v (ix2 t c) - Ideal.exp (r (ix2 t c)) * (a2 (ix2 0 c) + ∑ x : Fin 256, tri (ix2 t x) * k0_pay23 k v p q r (ix2 x c)))) := by
  pointwise! [k0_pay24]

/-- The new running sum. -/
theorem pay25_apply : (k0_pay25 m2 z2 k (ix2 0 c) : EReal) = z2 (ix2 0 c) * m2 (ix2 0 c) + ∑ x : Fin 256, k (ix2 x c) := by
  pointwise! [k0_pay25]

/-- The new running average. -/
theorem pay26_apply : (k0_pay26 k v a2 p q r (ix2 0 c) : EReal)
    = Ideal.exp (∑ x : Fin 256, q (ix2 x c)) * (a2 (ix2 0 c) + ∑ x : Fin 256, k0_pay23 k v p q r (ix2 x c)) := by
  pointwise! [k0_pay26]

/-- The new maximum, as stored. -/
theorem pay27_apply : (k0_pay27 m2 (ix3 0 0 c) : EReal) = m2 (ix2 0 c) := by
  pointwise! [k0_pay27]

/-- The new running sum, as stored. -/
theorem pay28_apply : (k0_pay28 m2 z2 k (ix3 0 0 c) : EReal) = z2 (ix2 0 c) * m2 (ix2 0 c) + ∑ x : Fin 256, k (ix2 x c) := by
  pointwise! [k0_pay28, k0_pay25]

/-- The new running average, as stored in the scratch. -/
theorem pay29_apply : (k0_pay29 m2 (ix3 0 0 c) : EReal) = m2 (ix2 0 c) := by
  pointwise! [k0_pay29]

/-- The new running average, as stored in the state. -/
theorem pay30_apply : (k0_pay30 m2 (ix3 0 0 c) : EReal) = m2 (ix2 0 c) := by
  pointwise! [k0_pay30]

/-- The decayed log-normalizer, as stored. -/
theorem pay31_apply : (k0_pay31 m2 k td (ix3 0 0 c) : EReal) = 0 - Ideal.exp (td (ix2 0 c)) + m2 (ix2 0 c) + Ideal.log (k (ix2 255 c)) := by
  pointwise! [k0_pay31]

/-- The log-normalizer, as stored. -/
theorem pay32_apply : (k0_pay32 m2 z2 (ix3 0 0 c) : EReal) = m2 (ix2 0 c) + Ideal.log (z2 (ix2 0 c)) := by
  pointwise! [k0_pay32]

end Row

end Cert.KernelIdeal.Hand

end
-- ==== Proof.TmChunk.lean ====
/- A chunk of the time-mix body at one channel: from a carry that stands for the recurrence at step `T`, the row's output
   and the carry it leaves are the recurrence's at the chunk's steps and at step `T + 256`. -/
module

public import proofs.«01_k».proof.Proof.TmVal

@[expose] public section

noncomputable section

namespace Cert.KernelIdeal.Hand

open Cert.KernelIdeal Cert.KernelIdeal.Gen
open Idealize.ShloMosaic
open Cert.Wkv

/-- A carried triple of rows stands, at channel `c`, for the recurrence before step `T`. -/
def Carries (K V : ℕ → ℝ) (T : ℕ) (c : Fin 1024) (m z a : Vec Ideal S1x1x1024 .f32) : Prop :=
  ∃ μ : ℝ, (m (ix3 0 0 c) : EReal) = (μ : EReal) ∧ (z (ix3 0 0 c) : EReal) = ((Z K T * Real.exp (-μ) : ℝ) : EReal)
    ∧ (a (ix3 0 0 c) : EReal) = ((A K V T : ℝ) : EReal)

section Chunk

variable {K V : ℕ → ℝ} {T : ℕ} {c : Fin 1024} {k v : FVec Ideal S256x1024 .f32} {m z a : Vec Ideal S1x1x1024 .f32}

/-- The running sums of a chunk. -/
theorem pay19_val {μ μ' : ℝ} (hk : ∀ t : Fin 256, (k (ix2 t c) : EReal) = (K (T + t) : EReal)) (hm : (m (ix3 0 0 c) : EReal) = (μ : EReal))
    (hz : (z (ix3 0 0 c) : EReal) = ((Z K T * Real.exp (-μ) : ℝ) : EReal)) (hμ : (k0_pay15 k m (ix2 0 c) : EReal) = (μ' : EReal)) (t : Fin 256) :
    (k0_pay19 k m z (ix2 t c) : EReal) = ((Z K (T + t) * Real.exp (-μ') : ℝ) : EReal) := by
  rw [pay19_apply, pay16_apply, hm, hz, hμ]
  simp only [pay18_apply, pay17_apply, hk, hμ]
  simp only [← EReal.coe_sub, exp_coe]
  rw [sum_tri (fun s => Real.exp (K (T + s) - μ')) t.isLt.le, ← EReal.coe_mul, ← EReal.coe_add, chunk_Z]

/-- The running sum at the chunk's end. -/
theorem sum_val {μ μ' : ℝ} (hk : ∀ t : Fin 256, (k (ix2 t c) : EReal) = (K (T + t) : EReal)) (hm : (m (ix3 0 0 c) : EReal) = (μ : EReal))
    (hz : (z (ix3 0 0 c) : EReal) = ((Z K T * Real.exp (-μ) : ℝ) : EReal)) (hμ : (k0_pay15 k m (ix2 0 c) : EReal) = (μ' : EReal)) :
    (k0_pay16 k m (ix2 0 c) : EReal) * k0_pay13 z (ix2 0 c) + ∑ x : Fin 256, (k0_pay17 k m (ix2 x c) : EReal)
      = ((Z K (T + 256) * Real.exp (-μ') : ℝ) : EReal) := by
  rw [pay16_apply, pay13_apply, hm, hz, hμ]
  simp only [pay17_apply, hk, hμ]
  simp only [← EReal.coe_sub, exp_coe]
  rw [sum_all (fun s => Real.exp (K (T + s) - μ')), ← EReal.coe_mul, ← EReal.coe_add, chunk_Z]

/-- The running logarithms of a chunk. -/
theorem pay20_val {μ μ' : ℝ} (hk : ∀ t : Fin 256, (k (ix2 t c) : EReal) = (K (T + t) : EReal)) (hm : (m (ix3 0 0 c) : EReal) = (μ : EReal))
    (hz : (z (ix3 0 0 c) : EReal) = ((Z K T * Real.exp (-μ) : ℝ) : EReal)) (hμ : (k0_pay15 k m (ix2 0 c) : EReal) = (μ' : EReal)) (t : Fin 256) :
    (k0_pay20 k m z (ix2 t c) : EReal) = P K (T + t) := by
  rw [pay20_apply, pay19_val hk hm hz hμ, hμ, chunk_P]

/-- The logarithms of a chunk's scale factors. -/
theorem pay21_val {μ μ' : ℝ} (hk : ∀ t : Fin 256, (k (ix2 t c) : EReal) = (K (T + t) : EReal)) (hm : (m (ix3 0 0 c) : EReal) = (μ : EReal))
    (hz : (z (ix3 0 0 c) : EReal) = ((Z K T * Real.exp (-μ) : ℝ) : EReal)) (hμ : (k0_pay15 k m (ix2 0 c) : EReal) = (μ' : EReal)) (t : Fin 256) :
    (k0_pay21 k m z (ix2 t c) : EReal) = ((g K (T + t) : ℝ) : EReal) := by
  rw [pay21_apply, pay20_val hk hm hz hμ, pay19_val hk hm hz hμ, hk, chunk_g]

/-- Their sums before each step. -/
theorem pay22_val {μ μ' : ℝ} (hk : ∀ t : Fin 256, (k (ix2 t c) : EReal) = (K (T + t) : EReal)) (hm : (m (ix3 0 0 c) : EReal) = (μ : EReal))
    (hz : (z (ix3 0 0 c) : EReal) = ((Z K T * Real.exp (-μ) : ℝ) : EReal)) (hμ : (k0_pay15 k m (ix2 0 c) : EReal) = (μ' : EReal)) (t : Fin 256) :
    (k0_pay22 k m z (ix2 t c) : EReal) = ((G K T t : ℝ) : EReal) := by
  rw [pay22_apply]
  simp only [pay18_apply, pay21_val hk hm hz hμ]
  rw [sum_tri (fun s => g K (T + s)) t.isLt.le, G]

/-- The addends of a chunk. -/
theorem pay23_val {μ μ' : ℝ} (hk : ∀ t : Fin 256, (k (ix2 t c) : EReal) = (K (T + t) : EReal)) (hv : ∀ t : Fin 256, (v (ix2 t c) : EReal) = (V (T + t) : EReal))
    (hm : (m (ix3 0 0 c) : EReal) = (μ : EReal))
    (hz : (z (ix3 0 0 c) : EReal) = ((Z K T * Real.exp (-μ) : ℝ) : EReal)) (hμ : (k0_pay15 k m (ix2 0 c) : EReal) = (μ' : EReal)) (t : Fin 256) :
    (k0_pay23 k v (k0_pay20 k m z) (k0_pay21 k m z) (k0_pay22 k m z) (ix2 t c) : EReal) = ((E K V T t : ℝ) : EReal) := by
  rw [pay23_apply, pay20_val hk hm hz hμ, pay21_val hk hm hz hμ, pay22_val hk hm hz hμ, hk, hv, chunk_E]

/-- A chunk's output. -/
theorem chunkY {u : ℝ} {X R : FVec Ideal S256x1024 .f32} {tf : Vec Ideal S1x1024 .f32} (hk : ∀ t : Fin 256, (k (ix2 t c) : EReal) = (K (T + t) : EReal))
    (hv : ∀ t : Fin 256, (v (ix2 t c) : EReal) = (V (T + t) : EReal)) (hc : Carries K V T c m z a) (hu : (tf (ix2 0 c) : EReal) = (u : EReal)) (t : Fin 256) :
    (k0_pay24 X k v R (k0_pay14 a) (k0_pay18 (F := Ideal)) (k0_pay20 k m z) (k0_pay21 k m z) (k0_pay22 k m z) tf (ix3 0 t c) : EReal)
      = X (ix2 t c) + R (ix2 t c) * ((W K V u (T + t) : ℝ) : EReal) := by
  obtain ⟨μ, hm, hz, ha⟩ := hc
  obtain ⟨μ', hμ⟩ := pay15_real k m c (fun t => ⟨_, hk t⟩) ⟨_, hm⟩
  rw [pay24_apply, pay14_apply, ha]
  simp only [pay18_apply, pay23_val hk hv hm hz hμ]
  rw [sum_tri (fun s => E K V T s) t.isLt.le, pay22_val hk hm hz hμ, pay20_val hk hm hz hμ, hk, hv, hu, exp_coe, ← EReal.coe_add, ← EReal.coe_mul,
    chunk_A, chunk_W]

/-- A chunk's last accumulated value. -/
theorem chunkAcc (hk : ∀ t : Fin 256, (k (ix2 t c) : EReal) = (K (T + t) : EReal))
    (hv : ∀ t : Fin 256, (v (ix2 t c) : EReal) = (V (T + t) : EReal)) (hc : Carries K V T c m z a) :
    (k0_pay26 k v (k0_pay14 a) (k0_pay20 k m z) (k0_pay21 k m z) (k0_pay22 k m z) (ix2 0 c) : EReal) = ((A K V (T + 256) : ℝ) : EReal) := by
  obtain ⟨μ, hm, hz, ha⟩ := hc
  obtain ⟨μ', hμ⟩ := pay15_real k m c (fun t => ⟨_, hk t⟩) ⟨_, hm⟩
  rw [pay26_apply, pay14_apply, ha]
  simp only [pay21_val hk hm hz hμ, pay23_val hk hv hm hz hμ]
  rw [sum_all (fun s => g K (T + s)), sum_all (fun s => E K V T s), exp_coe, ← EReal.coe_add, ← EReal.coe_mul, ← chunk_A, G]

/-- The carry a chunk leaves. -/
theorem chunkCarry (hk : ∀ t : Fin 256, (k (ix2 t c) : EReal) = (K (T + t) : EReal))
    (hv : ∀ t : Fin 256, (v (ix2 t c) : EReal) = (V (T + t) : EReal)) (hc : Carries K V T c m z a) :
    Carries K V (T + 256) c (k0_pay27 (k0_pay15 k m)) (k0_pay28 (k0_pay13 z) (k0_pay16 k m) (k0_pay17 k m))
      (k0_pay29 (k0_pay26 k v (k0_pay14 a) (k0_pay20 k m z) (k0_pay21 k m z) (k0_pay22 k m z))) := by
  have hA := chunkAcc hk hv hc
  obtain ⟨μ, hm, hz, ha⟩ := hc
  obtain ⟨μ', hμ⟩ := pay15_real k m c (fun t => ⟨_, hk t⟩) ⟨_, hm⟩
  exact ⟨μ', by rw [pay27_apply, hμ], by rw [pay28_apply, sum_val hk hm hz hμ], by rw [pay29_apply, hA]⟩

/-- The middle row of a chunk's state block: the decay plus the running logarithm before the last step. -/
theorem chunkS1 {td : Vec Ideal S1x1024 .f32} (hk : ∀ t : Fin 256, (k (ix2 t c) : EReal) = (K (T + t) : EReal)) (hc : Carries K V T c m z a) :
    (k0_pay31 (k0_pay15 k m) (k0_pay19 k m z) td (ix3 0 0 c) : EReal) = -Ideal.exp (td (ix2 0 c)) + P K (T + 255) := by
  obtain ⟨μ, hm, hz, ha⟩ := hc
  obtain ⟨μ', hμ⟩ := pay15_real k m c (fun t => ⟨_, hk t⟩) ⟨_, hm⟩
  rw [pay31_apply, pay19_val hk hm hz hμ, hμ, add_assoc, zero_sub]
  exact congrArg _ (chunk_P K μ' (T + 255))

/-- The last row of a chunk's state block: the running logarithm after the last step. -/
theorem chunkS2 (hk : ∀ t : Fin 256, (k (ix2 t c) : EReal) = (K (T + t) : EReal)) (hc : Carries K V T c m z a) :
    (k0_pay32 (k0_pay15 k m) (k0_pay25 (k0_pay13 z) (k0_pay16 k m) (k0_pay17 k m)) (ix3 0 0 c) : EReal) = P K (T + 256) := by
  obtain ⟨μ, hm, hz, ha⟩ := hc
  obtain ⟨μ', hμ⟩ := pay15_real k m c (fun t => ⟨_, hk t⟩) ⟨_, hm⟩
  rw [pay32_apply, pay25_apply, sum_val hk hm hz hμ, hμ, chunk_P]

end Chunk

end Cert.KernelIdeal.Hand

end
-- ==== Proof.Ln.lean ====
/- The layer norm of one row on the extended reals: the variance as mean of squares minus squared mean, and as mean of squared deviations. -/
module

public import proofs.«01_k».proof.Proof.Wkv
public import Idealize.ShloMosaic.Lib.IdealHost

@[expose] public section

noncomputable section

namespace Cert.Wkv

open Idealize.ShloMosaic

/-- The row length, as the programs write it. -/
def len : EReal := Ideal.ofBits .f32 0x44800000#32

/-- The layer norm's epsilon, as the programs write it. -/
def eps : EReal := Ideal.ofBits .f32 0x3727C5AC#32

/-- The row length is 1024. -/
theorem len_eq : len = ((1024 : ℝ) : EReal) := by
  unfold len
  simp [Ideal.ofBits, Ideal.ieee, -EReal.coe_mul]; norm_num

/-- The epsilon is a positive real. -/
theorem eps_pos : ∃ e : ℝ, 0 < e ∧ eps = (e : EReal) := by
  unfold eps
  simp only [Ideal.ofBits, Ideal.ieee]
  rw [if_neg (by decide), if_neg (by decide)]
  refine ⟨_, ?_, rfl⟩
  rw [if_neg (by decide)]
  positivity

/-- The mean of a row. -/
def mean (x : Fin 1024 → EReal) : EReal := Ideal.div (∑ i, x i) len

/-- A row's layer norm, the variance as the mean of squares minus the squared mean. -/
def lnK (x g b : Fin 1024 → EReal) (d : Fin 1024) : EReal :=
  (x d - mean x) * Ideal.rsqrt (Ideal.div (∑ i, x i * x i) len - mean x * mean x + eps) * g d + b d

/-- A row's layer norm, the variance as the mean of squared deviations. -/
def lnR (x g b : Fin 1024 → EReal) (d : Fin 1024) : EReal :=
  (x d - mean x) * Ideal.rsqrt (Ideal.div (∑ i, (x i - mean x) * (x i - mean x)) len + eps) * g d + b d

/-- The mean of a real row. -/
theorem mean_coe (ξ : Fin 1024 → ℝ) : mean (fun i => (ξ i : EReal)) = (((∑ i, ξ i) / 1024 : ℝ) : EReal) := by
  rw [mean, ← coe_sum, len_eq, div_coe (by norm_num)]

/-- The two variances of a real row. -/
theorem var_real (ξ : Fin 1024 → ℝ) :
    (∑ i, ξ i * ξ i) / 1024 - (∑ i, ξ i) / 1024 * ((∑ i, ξ i) / 1024)
      = (∑ i, (ξ i - (∑ i, ξ i) / 1024) * (ξ i - (∑ i, ξ i) / 1024)) / 1024 := by
  generalize hμ : (∑ i, ξ i) / 1024 = μ
  have hS : ∑ i, ξ i = 1024 * μ := by rw [← hμ]; ring
  have h : ∑ i, (ξ i - μ) * (ξ i - μ) = ∑ i, ξ i * ξ i - 2 * μ * ∑ i, ξ i + 1024 * (μ * μ) := by
    have e : ∀ i, (ξ i - μ) * (ξ i - μ) = ξ i * ξ i - 2 * μ * ξ i + μ * μ := fun i => by ring
    simp only [e, Finset.sum_add_distrib, Finset.sum_sub_distrib, ← Finset.mul_sum, Finset.sum_const, Finset.card_univ, Fintype.card_fin,
      nsmul_eq_mul]
    push_cast; ring
  rw [h, hS]; ring

/-- The mean of squared deviations of a real row. -/
theorem var_coe (ξ : Fin 1024 → ℝ) :
    Ideal.div (∑ i, ((ξ i : EReal) - mean (fun i => (ξ i : EReal))) * ((ξ i : EReal) - mean (fun i => (ξ i : EReal)))) len
      = (((∑ i, (ξ i - (∑ i, ξ i) / 1024) * (ξ i - (∑ i, ξ i) / 1024)) / 1024 : ℝ) : EReal) := by
  rw [mean_coe]
  simp only [← EReal.coe_sub, ← EReal.coe_mul]
  rw [← coe_sum, len_eq, div_coe (by norm_num)]

/-- The two layer norms agree on a real row. -/
theorem lnK_eq {x : Fin 1024 → EReal} (hx : ∀ i, ∃ r : ℝ, x i = (r : EReal)) (g b : Fin 1024 → EReal) (d : Fin 1024) : lnK x g b d = lnR x g b d := by
  choose ξ hξ using hx
  obtain rfl : x = fun i => (ξ i : EReal) := funext hξ
  unfold lnK lnR
  rw [var_coe, ← var_real, mean_coe]
  simp only [← EReal.coe_mul]
  rw [← coe_sum, len_eq, div_coe (by norm_num)]
  simp only [← EReal.coe_sub]

/-- The layer norm of a real row with real scale and shift is real. -/
theorem lnR_real {x g b : Fin 1024 → EReal} (hx : ∀ i, ∃ r : ℝ, x i = (r : EReal)) (hg : ∀ i, ∃ r : ℝ, g i = (r : EReal))
    (hb : ∀ i, ∃ r : ℝ, b i = (r : EReal)) (d : Fin 1024) : ∃ r : ℝ, lnR x g b d = (r : EReal) := by
  choose ξ hξ using hx
  obtain rfl : x = fun i => (ξ i : EReal) := funext hξ
  obtain ⟨γ, hγ⟩ := hg d
  obtain ⟨β, hβ⟩ := hb d
  obtain ⟨e, he, hE⟩ := eps_pos
  have hv : 0 < (∑ i, (ξ i - (∑ i, ξ i) / 1024) * (ξ i - (∑ i, ξ i) / 1024)) / 1024 + e :=
    add_pos_of_nonneg_of_pos (div_nonneg (Finset.sum_nonneg fun i _ => mul_self_nonneg _) (by norm_num)) he
  unfold lnR
  rw [var_coe, mean_coe, hγ, hβ, hE, ← EReal.coe_add]
  obtain ⟨s, hs⟩ : ∃ s : ℝ, Ideal.rsqrt ((((∑ i, (ξ i - (∑ i, ξ i) / 1024) * (ξ i - (∑ i, ξ i) / 1024)) / 1024 + e : ℝ)) : EReal) = (s : EReal) := by
    generalize (∑ i, (ξ i - (∑ i, ξ i) / 1024) * (ξ i - (∑ i, ξ i) / 1024)) / 1024 + e = w at hv
    exact ⟨_, by
      show (if w < 0 then (⊥ : EReal) else if w = 0 then ⊤ else (((Real.sqrt w)⁻¹ : ℝ) : EReal)) = _
      rw [if_neg hv.not_gt, if_neg hv.ne']⟩
  rw [hs, ← EReal.coe_sub, ← EReal.coe_mul, ← EReal.coe_mul, ← EReal.coe_add]
  exact ⟨_, rfl⟩

/-- A dot product of reals is real. -/
theorem dot_real {ι : Type} [Fintype ι] {x y : ι → EReal} (hx : ∀ i, ∃ r : ℝ, x i = (r : EReal)) (hy : ∀ i, ∃ r : ℝ, y i = (r : EReal)) :
    ∃ r : ℝ, ∑ i, x i * y i = (r : EReal) := by
  choose ξ hξ using hx
  choose η hη using hy
  exact ⟨∑ i, ξ i * η i, by simp only [hξ, hη, coe_sum, EReal.coe_mul]⟩

end Cert.Wkv

end
-- ==== Proof.Spec.lean ====
/- What the block computes, on the extended reals, as functions of its arguments: the keys and values, the time mix, the state and the channel mix. -/
module

public import proofs.«01_k».proof.Proof.Ln

@[expose] public section

noncomputable section

namespace Cert.Wkv

open Idealize.ShloMosaic

/-- The arguments the results depend on when nothing is mixed across steps. -/
@[ext] structure Args where
  x : Fin 8 → Fin 2048 → Fin 1024 → EReal
  td : Fin 1024 → EReal
  tf : Fin 1024 → EReal
  wk : Fin 1024 → Fin 1024 → EReal
  wv : Fin 1024 → Fin 1024 → EReal
  wr : Fin 1024 → Fin 1024 → EReal
  wkc : Fin 4096 → Fin 1024 → EReal
  wvc : Fin 1024 → Fin 4096 → EReal
  wrc : Fin 1024 → Fin 1024 → EReal
  g1 : Fin 1024 → EReal
  b1 : Fin 1024 → EReal
  g2 : Fin 1024 → EReal
  b2 : Fin 1024 → EReal

/-- An extended real that is a real. -/
def IsR (x : EReal) : Prop := ∃ r : ℝ, x = (r : EReal)

/-- The arguments the time mix needs real. -/
structure Args.Real (p : Args) : Prop where
  x : ∀ i t c, IsR (p.x i t c)
  tf : ∀ c, IsR (p.tf c)
  wk : ∀ c e, IsR (p.wk c e)
  wv : ∀ c e, IsR (p.wv c e)
  g1 : ∀ c, IsR (p.g1 c)
  b1 : ∀ c, IsR (p.b1 c)

/-- A real number in place of an extended real. -/
theorem coe_real {x : EReal} (h : IsR x) : ((x.toReal : ℝ) : EReal) = x := by
  obtain ⟨r, rfl⟩ := h; rw [EReal.toReal_coe]

/-- A row times a transposed matrix, at a column. -/
def proj (h : Fin 1024 → EReal) (w : Fin 1024 → Fin 1024 → EReal) (c : Fin 1024) : EReal := ∑ e : Fin 1024, h e * w c e

/-- Extended reals along the steps, as a sequence of reals. -/
def seq (f : Fin 2048 → EReal) (t : ℕ) : ℝ := if h : t < 2048 then (f ⟨t, h⟩).toReal else 0

/-- The sequence at a step. -/
theorem seq_eq {f : Fin 2048 → EReal} (hf : ∀ t, IsR (f t)) (t : Fin 2048) : ((seq f t : ℝ) : EReal) = f t := by
  unfold seq
  rw [dif_pos t.isLt]
  exact coe_real (hf t)

namespace Args

variable (p : Args)

/-- The normalised row. -/
def h (i : Fin 8) (t : Fin 2048) : Fin 1024 → EReal := lnR (p.x i t) p.g1 p.b1

/-- The keys of a batch row and channel. -/
def K (i : Fin 8) (c : Fin 1024) : ℕ → ℝ := seq fun t => proj (p.h i t) p.wk c

/-- The values of a batch row and channel. -/
def V (i : Fin 8) (c : Fin 1024) : ℕ → ℝ := seq fun t => proj (p.h i t) p.wv c

/-- The time mix's output. -/
def y (i : Fin 8) (t : Fin 2048) (c : Fin 1024) : EReal :=
  p.x i t c + Ideal.logistic (proj (p.h i t) p.wr c) * ((W (p.K i c) (p.V i c) (p.tf c).toReal t : ℝ) : EReal)

/-- The rectified hidden layer of the channel mix of a row. -/
def hid (r : Fin 1024 → EReal) (j : Fin 4096) : EReal := max (∑ e : Fin 1024, lnR r p.g2 p.b2 e * p.wkc j e) 0

/-- The channel mix of a row. -/
def cm (r : Fin 1024 → EReal) (c : Fin 1024) : EReal :=
  r c + Ideal.logistic (proj (lnR r p.g2 p.b2) p.wrc c) * ∑ j : Fin 4096, p.hid r j * p.hid r j * p.wvc c j

/-- The block's first result. -/
def out (i : Fin 8) (t : Fin 2048) (c : Fin 1024) : EReal := p.cm (p.y i t) c

/-- The block's second result: accumulated value, decayed logarithm and logarithm after the last step. -/
def state (i : Fin 8) (c : Fin 1024) (j : Fin 3) : EReal :=
  if (j : ℕ) < 1 then ((A (p.K i c) (p.V i c) 2048 : ℝ) : EReal)
  else if (j : ℕ) - 1 < 1 then -Ideal.exp (p.td c) + P (p.K i c) 2047 else P (p.K i c) 2048

variable {p}

/-- The normalised rows are real. -/
theorem Real.h (H : p.Real) (i : Fin 8) (t : Fin 2048) (e : Fin 1024) : IsR (p.h i t e) := lnR_real (H.x i t) H.g1 H.b1 e

/-- The keys are real. -/
theorem Real.K (H : p.Real) (i : Fin 8) (t : Fin 2048) (c : Fin 1024) : ((p.K i c t : ℝ) : EReal) = proj (p.h i t) p.wk c :=
  seq_eq (fun t => dot_real (H.h i t) (H.wk c)) t

/-- The values are real. -/
theorem Real.V (H : p.Real) (i : Fin 8) (t : Fin 2048) (c : Fin 1024) : ((p.V i c t : ℝ) : EReal) = proj (p.h i t) p.wv c :=
  seq_eq (fun t => dot_real (H.h i t) (H.wv c)) t

/-- The time mix's output is real. -/
theorem Real.y (H : p.Real) (i : Fin 8) (t : Fin 2048) (c : Fin 1024) : IsR (p.y i t c) := by
  obtain ⟨a, ha⟩ := H.x i t c
  obtain ⟨r, hr⟩ := logistic_real (proj (p.h i t) p.wr c)
  exact ⟨_, by unfold Args.y; rw [ha, hr, ← EReal.coe_mul, ← EReal.coe_add]⟩

end Args

end Cert.Wkv

end
-- ==== Proof.TmBlock.lean ====
/- The time-mix body's blocks at an index: the output block, the state block and the carry are the block's at the chunk's steps. -/
module

public import proofs.«01_k».proof.Proof.TmChunk
public import proofs.«01_k».proof.Proof.Spec
public import proofs.«01_k».proof.Proof.TmRegionIdeal
public import Idealize.ShloMosaic.Lib.Pipeline.ValueKit.Point

@[expose] public section

noncomputable section

namespace Cert.KernelIdeal.Hand

open Cert.KernelIdeal Cert.KernelIdeal.Gen
open Idealize.ShloMosaic
open Cert.Wkv

/-- The parameter blocks of the time-mix call stand for the arguments. -/
structure Params (p : Args) (lg lb td tf : Vec Ideal S1x1024 .f32) (wk wv wr : Vec Ideal S1024x1024 .bf16) : Prop where
  g : ∀ c, @Eq EReal (lg (ix2 0 c)) (p.g1 c)
  b : ∀ c, @Eq EReal (lb (ix2 0 c)) (p.b1 c)
  d : ∀ c, @Eq EReal (td (ix2 0 c)) (p.td c)
  f : ∀ c, @Eq EReal (tf (ix2 0 c)) (p.tf c)
  k : ∀ e c, @Eq EReal (wk (ix2 e c)) (p.wk c e)
  v : ∀ e c, @Eq EReal (wv (ix2 e c)) (p.wv c e)
  r : ∀ e c, @Eq EReal (wr (ix2 e c)) (p.wr c e)

/-- A row block stands for the steps from `T` of batch row `i`. -/
structure Steps (p : Args) (i : Fin 8) (T : ℕ) (xb : Vec Ideal S1x256x1024 .f32) : Prop where
  le : T + 256 ≤ 2048
  x : ∀ (s : Fin 256) (h : T + s < 2048) (c : Fin 1024), @Eq EReal (xb (ix3 0 s c)) (p.x i ⟨T + s, h⟩ c)

section Row

variable {p : Args} {lg lb td tf : Vec Ideal S1x1024 .f32} {wk wv wr : Vec Ideal S1024x1024 .bf16}
variable {i : Fin 8} {T : ℕ} {xb : Vec Ideal S1x256x1024 .f32}

/-- The step of a chunk's row. -/
def Steps.at (S : Steps p i T xb) (s : Fin 256) : Fin 2048 := ⟨T + s, by have := S.le; have := s.isLt; omega⟩

/-- The normalised block. -/
theorem pay7_val (H : p.Real) (Q : Params p lg lb td tf wk wv wr) (S : Steps p i T xb) (s : Fin 256) (c : Fin 1024) :
    (k0_pay7 xb lg lb (ix2 s c) : EReal) = p.h i (S.at s) c := by
  have e : (k0_pay7 xb lg lb (ix2 s c) : EReal)
      = lnK (fun e => xb (ix3 0 s e)) (fun e => lg (ix2 0 e)) (fun e => lb (ix2 0 e)) c := by
    unfold lnK mean len eps
    pointwise! [k0_pay7, k0_pay6]
  have ex : (fun e => (xb (ix3 0 s e) : EReal)) = p.x i (S.at s) := funext fun e => S.x s _ e
  have eg : (fun e => (lg (ix2 0 e) : EReal)) = p.g1 := funext Q.g
  have eb : (fun e => (lb (ix2 0 e) : EReal)) = p.b1 := funext Q.b
  rw [e, ex, eg, eb]
  exact lnK_eq (H.x i _) p.g1 p.b1 c

/-- The block itself. -/
theorem pay6_val (S : Steps p i T xb) (s : Fin 256) (c : Fin 1024) : (k0_pay6 xb (ix2 s c) : EReal) = p.x i (S.at s) c := by
  have e : (k0_pay6 xb (ix2 s c) : EReal) = xb (ix3 0 s c) := by pointwise! [k0_pay6]
  rw [e]; exact S.x s _ c

/-- The keys of the chunk. -/
theorem rowK_val (H : p.Real) (Q : Params p lg lb td tf wk wv wr) (S : Steps p i T xb) (c : Fin 1024) (s : Fin 256) :
    (rowK xb lg lb wk (ix2 s c) : EReal) = ((p.K i c (T + s) : ℝ) : EReal) := by
  have e : (k0_pay8 xb lg lb wk (ix2 s c) : EReal) = ∑ x : Fin 1024, k0_pay7 xb lg lb (ix2 s x) * wk (ix2 x c) := by pointwise! [k0_pay8]
  show (k0_pay8 xb lg lb wk (ix2 s c) : EReal) = _
  rw [e, show p.K i c (T + s) = p.K i c (S.at s) from rfl, H.K]
  exact Finset.sum_congr rfl fun x _ => by rw [pay7_val H Q S, Q.k]

/-- The values of the chunk. -/
theorem rowV_val (H : p.Real) (Q : Params p lg lb td tf wk wv wr) (S : Steps p i T xb) (c : Fin 1024) (s : Fin 256) :
    (rowV xb lg lb wv (ix2 s c) : EReal) = ((p.V i c (T + s) : ℝ) : EReal) := by
  have e : ∀ h : FVec Ideal S256x1024 .bf16, (k0_pay10 h (k0_pay9 wv) (constant S256x1024 .f32 0x00000000#32) (ix2 s c) : EReal)
      = ∑ x : Fin 1024, h (ix2 s x) * wv (ix2 x c) := fun h => by pointwise! [k0_pay10, k0_pay9]
  show (k0_pay10 (k0_pay7 xb lg lb) (k0_pay9 wv) (constant S256x1024 .f32 0x00000000#32) (ix2 s c) : EReal) = _
  rw [e, show p.V i c (T + s) = p.V i c (S.at s) from rfl, H.V]
  exact Finset.sum_congr rfl fun x _ => by rw [pay7_val H Q S, Q.v]

/-- The gates of the chunk. -/
theorem rowR_val (H : p.Real) (Q : Params p lg lb td tf wk wv wr) (S : Steps p i T xb) (c : Fin 1024) (s : Fin 256) :
    (rowR xb lg lb wr (ix2 s c) : EReal) = Ideal.logistic (proj (p.h i (S.at s)) p.wr c) := by
  have e : ∀ h : FVec Ideal S256x1024 .bf16, (k0_pay11 h wr (ix2 s c) : EReal)
      = Ideal.logistic (∑ x : Fin 1024, h (ix2 s x) * wr (ix2 x c)) := fun h => by pointwise! [k0_pay11]
  show (k0_pay11 (k0_pay7 xb lg lb) wr (ix2 s c) : EReal) = _
  rw [e]
  congr 1
  exact Finset.sum_congr rfl fun x _ => by rw [pay7_val H Q S, Q.r]

variable {m z a : Vec Ideal S1x1x1024 .f32}

/-- A row's output. -/
theorem rowY_val (H : p.Real) (Q : Params p lg lb td tf wk wv wr) (S : Steps p i T xb) (c : Fin 1024)
    (hc : Carries (p.K i c) (p.V i c) T c m z a) (s : Fin 256) : (rowY xb lg lb tf wk wv wr m z a (ix3 0 s c) : EReal) = p.y i (S.at s) c := by
  refine (chunkY (X := k0_pay6 xb) (R := rowR xb lg lb wr) (rowK_val H Q S c) (rowV_val H Q S c) hc
    ((Q.f c).trans (coe_real (H.tf c)).symm) s).trans ?_
  rw [pay6_val S, rowR_val H Q S]; rfl

/-- The carry a row leaves. -/
theorem row_carry (H : p.Real) (Q : Params p lg lb td tf wk wv wr) (S : Steps p i T xb) (c : Fin 1024)
    (hc : Carries (p.K i c) (p.V i c) T c m z a) :
    Carries (p.K i c) (p.V i c) (T + 256) c (rowM xb lg lb wk m) (rowZ xb lg lb wk m z) (rowA xb lg lb wk wv m z a) :=
  chunkCarry (rowK_val H Q S c) (rowV_val H Q S c) hc

/-- The first row of the state block. -/
theorem rowS0_val (H : p.Real) (Q : Params p lg lb td tf wk wv wr) (S : Steps p i T xb) (c : Fin 1024)
    (hc : Carries (p.K i c) (p.V i c) T c m z a) : (rowS0 xb lg lb wk wv m z a (ix3 0 0 c) : EReal) = ((A (p.K i c) (p.V i c) (T + 256) : ℝ) : EReal) :=
  (pay30_apply c _).trans (chunkAcc (rowK_val H Q S c) (rowV_val H Q S c) hc)

/-- The second. -/
theorem rowS1_val (H : p.Real) (Q : Params p lg lb td tf wk wv wr) (S : Steps p i T xb) (c : Fin 1024)
    (hc : Carries (p.K i c) (p.V i c) T c m z a) : (rowS1 xb lg lb td wk m z (ix3 0 0 c) : EReal) = -Ideal.exp (p.td c) + P (p.K i c) (T + 255) :=
  (chunkS1 (rowK_val H Q S c) hc).trans (by rw [Q.d])

/-- The third. -/
theorem rowS2_val (H : p.Real) (Q : Params p lg lb td tf wk wv wr) (S : Steps p i T xb) (c : Fin 1024)
    (hc : Carries (p.K i c) (p.V i c) T c m z a) : (rowS2 xb lg lb wk m z (ix3 0 0 c) : EReal) = P (p.K i c) (T + 256) :=
  chunkS2 (rowK_val H Q S c) hc

end Row

/-! ## Both rows of a block -/

/-- A carry stands for the recurrences of batch rows `i₀` and `i₁` before step `T`. -/
structure Both (p : Args) (i₀ i₁ : Fin 8) (T : ℕ) (k : Carry Ideal) : Prop where
  r0 : ∀ c, Carries (p.K i₀ c) (p.V i₀ c) T c k.m0 k.z0 k.a0
  r1 : ∀ c, Carries (p.K i₁ c) (p.V i₁ c) T c k.m1 k.z1 k.a1

section Block

variable {p : Args} {i₀ i₁ : Fin 8} {T : ℕ}
variable {x0 : Vec Ideal S2x256x1024 .f32} {x1 x2 x3 x4 : Vec Ideal S1x1024 .f32} {x5 x6 x7 : Vec Ideal S1024x1024 .bf16} {k : Carry Ideal}

/-- The carry a block leaves. -/
theorem both_next (H : p.Real) (Q : Params p x1 x2 x3 x4 x5 x6 x7) (S0 : Steps p i₀ T (xb0 x0)) (S1 : Steps p i₁ T (xb1 x0)) (B : Both p i₀ i₁ T k) :
    Both p i₀ i₁ (T + 256) (nextCarry x0 x1 x2 x3 x4 x5 x6 x7 k) :=
  ⟨fun c => row_carry H Q S0 c (B.r0 c), fun c => row_carry H Q S1 c (B.r1 c)⟩

/-- A batch block begins with a large negative shift. -/
theorem init_shift (r : Fin 2) (c : Fin 1024) : @Eq EReal (View.canon (initPcs (F := Ideal)) (ix3 r 0 c)) (Ideal.ofBits .f32 0xF149F2CA#32) := by
  unfold initPcs
  have hm : ix3 r (0 : Fin 8) c ∈ (Rect.unit (s := S2x8x1024) ![0, 0, 0] ![2, 1, 1024] inb_S2x8x1024_S2x1x1024_0_0_0).set :=
    Rect.mem_set_unit.mpr fun a => by
      have := r.isLt; have := c.isLt
      fin_cases a <;> simp [ix3] <;> omega
  canon_tiles x h using ⟨_, List.mem_cons_of_mem _ List.mem_cons_self, hm⟩
  · exfalso; have h : (0 : ℕ) = 1 + (x 1).val := h1; omega
  · rfl

/-- A batch block begins with sums of zero. -/
theorem init_zero (r : Fin 2) (b : Fin 8) (hb : b.val = 1 ∨ b.val = 2) (c : Fin 1024) :
    @Eq EReal (View.canon (initPcs (F := Ideal)) (ix3 r b c)) (Ideal.ofBits .f32 0x00000000#32) := by
  unfold initPcs
  have hm : ix3 r b c ∈ (Rect.unit (s := S2x8x1024) ![0, 1, 0] ![2, 2, 1024] inb_S2x8x1024_S2x2x1024_0_1_0).set :=
    Rect.mem_set_unit.mpr fun a => by
      have := r.isLt; have := c.isLt
      fin_cases a <;> simp [ix3] <;> omega
  canon_tiles x h using ⟨_, List.mem_cons_self, hm⟩
  · rfl
  · exfalso; have h : b.val = (x 1).val := h1; omega

/-- A load of one row of the scratch. -/
theorem ld_row (X : Vec Ideal S2x8x1024 .f32) (r : Fin 2) (b : Fin 8) (r' b' : ℕ) (hr : r.val = r') (hb : b.val = b')
    (h : ∀ a, (![r', b', 0] : Fin 3 → ℕ) a + (![1, 1, 1024] : Fin 3 → ℕ) a ≤ S2x8x1024.size a) (c : Fin 1024) :
    @Eq EReal (View.ld X (Rect.unit (s := S2x8x1024) ![r', b', 0] ![1, 1, 1024] h) (ix3 0 0 c)) (X (ix3 r b c)) :=
  View.ld_unit_apply_of X _ _ h _ (ix3 r b c) fun
    | ⟨0, _⟩ => hr
    | ⟨1, _⟩ => hb
    | ⟨2, _⟩ => (Nat.zero_add _).symm

/-- A load of one row of the input block. -/
theorem ld_xb (X : Vec Ideal S2x256x1024 .f32) (r : Fin 2) (r' : ℕ) (hr : r.val = r')
    (h : ∀ a, (![r', 0, 0] : Fin 3 → ℕ) a + (![1, 256, 1024] : Fin 3 → ℕ) a ≤ S2x256x1024.size a) (s : Fin 256) (c : Fin 1024) :
    @Eq EReal (View.ld X (Rect.unit (s := S2x256x1024) ![r', 0, 0] ![1, 256, 1024] h) (ix3 0 s c)) (X (ix3 r s c)) :=
  View.ld_unit_apply_of X _ _ h _ (ix3 r s c) fun
    | ⟨0, _⟩ => hr
    | ⟨1, _⟩ => (Nat.zero_add _).symm
    | ⟨2, _⟩ => (Nat.zero_add _).symm

/-- An index of a single row. -/
theorem idx_row (x : S1x256x1024.Idx) (s : Fin 256) (c : Fin 1024) (h1 : s.val = (x 1).val) (h2 : c.val = (x 2).val) : x = ix3 0 s c :=
  funext fun
    | ⟨0, h⟩ => Fin.ext (by have : (x ⟨0, h⟩).val < 1 := (x ⟨0, h⟩).isLt; show (x ⟨0, h⟩).val = 0; omega)
    | ⟨1, _⟩ => Fin.ext h1.symm
    | ⟨2, _⟩ => Fin.ext h2.symm

/-- An index of a single vector. -/
theorem idx_vec (x : S1x1x1024.Idx) (c : Fin 1024) (h2 : c.val = (x 2).val) : x = ix3 0 0 c :=
  funext fun
    | ⟨0, h⟩ => Fin.ext (by have : (x ⟨0, h⟩).val < 1 := (x ⟨0, h⟩).isLt; show (x ⟨0, h⟩).val = 0; omega)
    | ⟨1, h⟩ => Fin.ext (by have : (x ⟨1, h⟩).val < 1 := (x ⟨1, h⟩).isLt; show (x ⟨1, h⟩).val = 0; omega)
    | ⟨2, _⟩ => Fin.ext h2.symm

/-- The carry a batch block begins with. -/
theorem both_init : Both p i₀ i₁ 0 initCarry := by
  obtain ⟨r, hr⟩ := ofBits_neg
  have e0 : ∀ (K V : ℕ → ℝ) (c : Fin 1024) (m z a : Vec Ideal S1x1x1024 .f32), @Eq EReal (m (ix3 0 0 c)) (Ideal.ofBits .f32 0xF149F2CA#32) →
      @Eq EReal (z (ix3 0 0 c)) (Ideal.ofBits .f32 0x00000000#32) → @Eq EReal (a (ix3 0 0 c)) (Ideal.ofBits .f32 0x00000000#32) → Carries K V 0 c m z a := by
    intro K V c m z a hm hz ha
    refine ⟨r, hm.trans hr, hz.trans ?_, ha.trans ?_⟩
    · rw [Z_zero, zero_mul, Ideal.ofBits_zero_f32, EReal.coe_zero]
    · rw [Ideal.ofBits_zero_f32]; rfl
  unfold initCarry
  generalize hX : View.canon (initPcs (F := Ideal)) = X
  have hs : ∀ r c, @Eq EReal (X (ix3 r 0 c)) (Ideal.ofBits .f32 0xF149F2CA#32) := fun r c => hX ▸ init_shift r c
  have hz : ∀ r b, b.val = 1 ∨ b.val = 2 → ∀ c, @Eq EReal (X (ix3 r b c)) (Ideal.ofBits .f32 0x00000000#32) := fun r b hb c => hX ▸ init_zero r b hb c
  unfold rows
  refine ⟨fun c => e0 _ _ c _ _ _ ?_ ?_ ?_, fun c => e0 _ _ c _ _ _ ?_ ?_ ?_⟩
  · exact (ld_row X 0 0 0 0 rfl rfl inb_S2x8x1024_S1x1x1024_0_0_0 c).trans (hs 0 c)
  · exact (ld_row X 0 1 0 1 rfl rfl inb_S2x8x1024_S1x1x1024_0_1_0 c).trans (hz 0 1 (Or.inl rfl) c)
  · exact (ld_row X 0 2 0 2 rfl rfl inb_S2x8x1024_S1x1x1024_0_2_0 c).trans (hz 0 2 (Or.inr rfl) c)
  · exact (ld_row X 1 0 1 0 rfl rfl inb_S2x8x1024_S1x1x1024_1_0_0 c).trans (hs 1 c)
  · exact (ld_row X 1 1 1 1 rfl rfl inb_S2x8x1024_S1x1x1024_1_1_0 c).trans (hz 1 1 (Or.inl rfl) c)
  · exact (ld_row X 1 2 1 2 rfl rfl inb_S2x8x1024_S1x1x1024_1_2_0 c).trans (hz 1 2 (Or.inr rfl) c)

/-- The output block. -/
theorem outY_val (H : p.Real) (Q : Params p x1 x2 x3 x4 x5 x6 x7) (S0 : Steps p i₀ T (xb0 x0)) (S1 : Steps p i₁ T (xb1 x0)) (B : Both p i₀ i₁ T k)
    (r : Fin 2) (s : Fin 256) (c : Fin 1024) :
    @Eq EReal (outY x0 x1 x2 x3 x4 x5 x6 x7 k (ix3 r s c)) (p.y (if r.val = 0 then i₀ else i₁) (S0.at s) c) := by
  have hc := cover_Y x0 x1 x2 x3 x4 x5 x6 x7 k (ix3 r s c)
  unfold pcsY at hc
  unfold outY pcsY
  canon_tiles x h using hc
  · have g0 : r.val = 1 + (x 0).val := h0
    have g1 : s.val = (x 1).val := h1
    have g2 : c.val = (x 2).val := h2
    have e := idx_row x s c g1 g2
    have hr : ¬ r.val = 0 := by omega
    clear h0 h1 h2 x0_lt x1_lt x2_lt hc g0 g1 g2
    subst e
    rw [if_neg hr]
    exact rowY_val H Q S1 c (B.r1 c) s
  · have g0 : r.val = (x 0).val := h0
    have g1 : s.val = (x 1).val := h1
    have g2 : c.val = (x 2).val := h2
    have e := idx_row x s c g1 g2
    have hr : r.val = 0 := by omega
    clear h0 h1 h2 x0_lt x1_lt x2_lt hc g0 g1 g2
    subst e
    rw [if_pos hr]
    exact rowY_val H Q S0 c (B.r0 c) s

/-- The state's first entry. -/
theorem state_0 (p : Args) (i : Fin 8) (c : Fin 1024) (j : Fin 3) (h : j.val = 0) : p.state i c j = ((A (p.K i c) (p.V i c) 2048 : ℝ) : EReal) := by
  unfold Args.state; rw [if_pos (by omega)]

/-- The state's second entry. -/
theorem state_1 (p : Args) (i : Fin 8) (c : Fin 1024) (j : Fin 3) (h : j.val = 1) : p.state i c j = -Ideal.exp (p.td c) + P (p.K i c) 2047 := by
  unfold Args.state; rw [if_neg (by omega), if_pos (by omega)]

/-- The state's third entry. -/
theorem state_2 (p : Args) (i : Fin 8) (c : Fin 1024) (j : Fin 3) (h : j.val = 2) : p.state i c j = P (p.K i c) 2048 := by
  unfold Args.state; rw [if_neg (by omega), if_neg (by omega)]

/-- The state block. -/
theorem outS_val (H : p.Real) (Q : Params p x1 x2 x3 x4 x5 x6 x7) (S0 : Steps p i₀ T (xb0 x0)) (S1 : Steps p i₁ T (xb1 x0)) (B : Both p i₀ i₁ T k)
    (r : Fin 2) (j : Fin 3) (c : Fin 1024) (hT : T = 1792) :
    @Eq EReal (outS x0 x1 x2 x3 x4 x5 x6 x7 k (ix3 r j c)) (p.state (if r.val = 0 then i₀ else i₁) c j) := by
  subst hT
  have hc := cover_S x0 x1 x2 x3 x4 x5 x6 x7 k (ix3 r j c)
  unfold pcsS at hc
  unfold outS pcsS
  canon_tiles x h using hc
  · have g0 : r.val = 1 + (x 0).val := h0
    have g1 : j.val = 2 + (x 1).val := h1
    have g2 : c.val = (x 2).val := h2
    have e := idx_vec x c g2
    have hr : ¬ r.val = 0 := by omega
    have hj : j.val = 2 := by omega
    clear h0 h1 h2 x0_lt x1_lt x2_lt hc g0 g1 g2
    subst e
    rw [if_neg hr, state_2 p _ c j hj]
    exact rowS2_val H Q S1 c (B.r1 c)
  · have g0 : r.val = 1 + (x 0).val := h0
    have g1 : j.val = 1 + (x 1).val := h1
    have g2 : c.val = (x 2).val := h2
    have e := idx_vec x c g2
    have hr : ¬ r.val = 0 := by omega
    have hj : j.val = 1 := by omega
    clear h0 h1 h2 x0_lt x1_lt x2_lt hc g0 g1 g2
    subst e
    rw [if_neg hr, state_1 p _ c j hj]
    exact rowS1_val H Q S1 c (B.r1 c)
  · have g0 : r.val = 1 + (x 0).val := h0
    have g1 : j.val = (x 1).val := h1
    have g2 : c.val = (x 2).val := h2
    have e := idx_vec x c g2
    have hr : ¬ r.val = 0 := by omega
    have hj : j.val = 0 := by omega
    clear h0 h1 h2 x0_lt x1_lt x2_lt hc g0 g1 g2
    subst e
    rw [if_neg hr, state_0 p _ c j hj]
    exact rowS0_val H Q S1 c (B.r1 c)
  · have g0 : r.val = (x 0).val := h0
    have g1 : j.val = 2 + (x 1).val := h1
    have g2 : c.val = (x 2).val := h2
    have e := idx_vec x c g2
    have hr : r.val = 0 := by omega
    have hj : j.val = 2 := by omega
    clear h0 h1 h2 x0_lt x1_lt x2_lt hc g0 g1 g2
    subst e
    rw [if_pos hr, state_2 p _ c j hj]
    exact rowS2_val H Q S0 c (B.r0 c)
  · have g0 : r.val = (x 0).val := h0
    have g1 : j.val = 1 + (x 1).val := h1
    have g2 : c.val = (x 2).val := h2
    have e := idx_vec x c g2
    have hr : r.val = 0 := by omega
    have hj : j.val = 1 := by omega
    clear h0 h1 h2 x0_lt x1_lt x2_lt hc g0 g1 g2
    subst e
    rw [if_pos hr, state_1 p _ c j hj]
    exact rowS1_val H Q S0 c (B.r0 c)
  · have g0 : r.val = (x 0).val := h0
    have g1 : j.val = (x 1).val := h1
    have g2 : c.val = (x 2).val := h2
    have e := idx_vec x c g2
    have hr : r.val = 0 := by omega
    have hj : j.val = 0 := by omega
    clear h0 h1 h2 x0_lt x1_lt x2_lt hc g0 g1 g2
    subst e
    rw [if_pos hr, state_0 p _ c j hj]
    exact rowS0_val H Q S0 c (B.r0 c)

end Block

end Cert.KernelIdeal.Hand

end
-- ==== Proof.Entry.lean ====
/- The arrays the two calls are entered with, at an index: the parameters' reshapes and the transposed weights. -/
module

public import proofs.«01_k».proof.Proof.LaunchIdeal
public import proofs.«01_k».proof.Proof.Spec
public import Idealize.ShloMosaic.Lib.Pipeline.ValueKit.Point

@[expose] public section

noncomputable section

namespace Cert.KernelIdeal.Hand

open Cert.KernelIdeal Cert.KernelIdeal.Gen
open Idealize.ShloMosaic Idealize.ShloMosaic.TcCoe
open Cert.Wkv

variable (m : (ℓ : Loc nD τ sig) → Buf (Elt Ideal) ℓ) (d : Dev nD)

/-- The kernel's arguments. -/
def args : Args where
  x i t c := m ((d.tc : Thread nD τ).loc main_arg0) (ix3 i t c)
  td c := m ((d.tc : Thread nD τ).loc main_arg1) (ix1 c)
  tf c := m ((d.tc : Thread nD τ).loc main_arg2) (ix1 c)
  wk c e := m ((d.tc : Thread nD τ).loc main_arg3) (ix2 c e)
  wv c e := m ((d.tc : Thread nD τ).loc main_arg4) (ix2 c e)
  wr c e := m ((d.tc : Thread nD τ).loc main_arg5) (ix2 c e)
  wkc j e := m ((d.tc : Thread nD τ).loc main_arg6) (ix2 j e)
  wvc c j := m ((d.tc : Thread nD τ).loc main_arg7) (ix2 c j)
  wrc c e := m ((d.tc : Thread nD τ).loc main_arg8) (ix2 c e)
  g1 c := m ((d.tc : Thread nD τ).loc main_arg9) (ix1 c)
  b1 c := m ((d.tc : Thread nD τ).loc main_arg10) (ix1 c)
  g2 c := m ((d.tc : Thread nD τ).loc main_arg11) (ix1 c)
  b2 c := m ((d.tc : Thread nD τ).loc main_arg12) (ix1 c)

/-- The first layer norm's scale, as the calls read it. -/
theorem entry_v12 (c : Fin 1024) : @Eq EReal (E1 m d main_v12 (ix2 0 c)) ((args m d).g1 c) := by
  unfold args E1 W1
  entry_read
  pointwise

/-- The first layer norm's shift, as the calls read it. -/
theorem entry_v13 (c : Fin 1024) : @Eq EReal (E1 m d main_v13 (ix2 0 c)) ((args m d).b1 c) := by
  unfold args E1 W1
  entry_read
  pointwise

/-- The second layer norm's scale, as the calls read it. -/
theorem entry_v14 (c : Fin 1024) : @Eq EReal (E1 m d main_v14 (ix2 0 c)) ((args m d).g2 c) := by
  unfold args E1 W1
  entry_read
  pointwise

/-- The second layer norm's shift, as the calls read it. -/
theorem entry_v15 (c : Fin 1024) : @Eq EReal (E1 m d main_v15 (ix2 0 c)) ((args m d).b2 c) := by
  unfold args E1 W1
  entry_read
  pointwise

/-- The decay, as the calls read it. -/
theorem entry_v16 (c : Fin 1024) : @Eq EReal (E1 m d main_v16 (ix2 0 c)) ((args m d).td c) := by
  unfold args E1 W1
  entry_read
  pointwise

/-- The bonus, as the calls read it. -/
theorem entry_v17 (c : Fin 1024) : @Eq EReal (E1 m d main_v17 (ix2 0 c)) ((args m d).tf c) := by
  unfold args E1 W1
  entry_read
  pointwise

/-- The key weights, transposed. -/
theorem entry_v1 (e : Fin 1024) (c : Fin 1024) : @Eq EReal (E1 m d main_v1 (ix2 e c)) ((args m d).wk c e) := by
  unfold args E1 W1
  entry_read
  pointwise

/-- The value weights, transposed. -/
theorem entry_v3 (e : Fin 1024) (c : Fin 1024) : @Eq EReal (E1 m d main_v3 (ix2 e c)) ((args m d).wv c e) := by
  unfold args E1 W1
  entry_read
  pointwise

/-- The gate weights, transposed. -/
theorem entry_v5 (e : Fin 1024) (c : Fin 1024) : @Eq EReal (E1 m d main_v5 (ix2 e c)) ((args m d).wr c e) := by
  unfold args E1 W1
  entry_read
  pointwise

/-- The hidden weights, transposed. -/
theorem entry_v7 (e : Fin 1024) (c : Fin 4096) : @Eq EReal (E1 m d main_v7 (ix2 e c)) ((args m d).wkc c e) := by
  unfold args E1 W1
  entry_read
  pointwise

/-- The output weights, transposed. -/
theorem entry_v9 (e : Fin 4096) (c : Fin 1024) : @Eq EReal (E1 m d main_v9 (ix2 e c)) ((args m d).wvc c e) := by
  unfold args E1 W1
  entry_read
  pointwise

/-- The channel gate weights, transposed. -/
theorem entry_v11 (e : Fin 1024) (c : Fin 1024) : @Eq EReal (E1 m d main_v11 (ix2 e c)) ((args m d).wrc c e) := by
  unfold args E1 W1
  entry_read
  pointwise

/-- The input, as the first call reads it. -/
theorem entry_x (i : Fin 8) (t : Fin 2048) (c : Fin 1024) : @Eq EReal (E1 m d main_arg0 (ix3 i t c)) ((args m d).x i t c) := by
  unfold args E1 W1
  entry_read
  rfl

end Cert.KernelIdeal.Hand

end
-- ==== Proof.TmArr.lean ====
/- The time-mix call's two arrays after the call. -/
module

public import proofs.«01_k».proof.Proof.TmBlock
public import proofs.«01_k».proof.Proof.Entry

@[expose] public section

noncomputable section

namespace Cert.KernelIdeal.Hand

open Cert.KernelIdeal Cert.KernelIdeal.Gen
open Idealize.ShloMosaic Idealize.ShloMosaic.TcCoe
open Idealize.ShloMosaic.Pipeline (Dat Cfg Window)
open Cert.Wkv

variable (m : (ℓ : Loc nD τ sig) → Buf (Elt Ideal) ℓ) (d : Dev nD)

/-- The block each window is at, point by point. -/
theorem idx0_0 : ∀ t : Fin cfg0.N, win0_0.index t = ![t.val / 8, t.val % 8, 0] := (by decide +kernel : ∀ t : Fin grid0.N, _)
/-- Which block of the output a point works on. -/
theorem idx0_8 : ∀ t : Fin cfg0.N, win0_8.index t = ![t.val / 8, t.val % 8, 0] := (by decide +kernel : ∀ t : Fin grid0.N, _)
/-- Which block of the state a point works on. -/
theorem idx0_9 : ∀ t : Fin cfg0.N, win0_9.index t = ![t.val / 8, 0, 0] := (by decide +kernel : ∀ t : Fin grid0.N, _)
/-- Which block of the scale a point works on. -/
theorem idx0_1 : ∀ t : Fin cfg0.N, win0_1.index t = ![0, 0] := (by decide +kernel : ∀ t : Fin grid0.N, _)
/-- Which block of the shift a point works on. -/
theorem idx0_2 : ∀ t : Fin cfg0.N, win0_2.index t = ![0, 0] := (by decide +kernel : ∀ t : Fin grid0.N, _)
/-- Which block of the decay a point works on. -/
theorem idx0_3 : ∀ t : Fin cfg0.N, win0_3.index t = ![0, 0] := (by decide +kernel : ∀ t : Fin grid0.N, _)
/-- Which block of the bonus a point works on. -/
theorem idx0_4 : ∀ t : Fin cfg0.N, win0_4.index t = ![0, 0] := (by decide +kernel : ∀ t : Fin grid0.N, _)
/-- Which block of the key weight a point works on. -/
theorem idx0_5 : ∀ t : Fin cfg0.N, win0_5.index t = ![0, 0] := (by decide +kernel : ∀ t : Fin grid0.N, _)
/-- Which block of the value weight a point works on. -/
theorem idx0_6 : ∀ t : Fin cfg0.N, win0_6.index t = ![0, 0] := (by decide +kernel : ∀ t : Fin grid0.N, _)
/-- Which block of the receptance weight a point works on. -/
theorem idx0_7 : ∀ t : Fin cfg0.N, win0_7.index t = ![0, 0] := (by decide +kernel : ∀ t : Fin grid0.N, _)

variable (V : (c : Dev nD) → (b : Ref sig .tc) → Buf (Elt Ideal) ((c : Thread nD τ).loc b))

/-- The input block at an index. -/
theorem iblk0_0 (t : Fin cfg0.N) (r : Fin 2) (s : Fin 256) (c : Fin 1024) (i : Fin 8) (q : Fin 2048) (hi : i.val = t.val / 8 * 2 + r.val) (hq : q.val = t.val % 8 * 256 + s.val) :
    iblk0 V d 0 t (ix3 r s c) = V d main_arg0 (ix3 i q c) := by
  blk_ext [iblk0, idx0_0 t]

/-- Window 1's block is its array. -/
theorem iblk0_1 (t : Fin cfg0.N) (c : Fin 1024) : iblk0 V d 1 t (ix2 0 c) = V d main_v12 (ix2 0 c) := by
  blk_ext [iblk0, idx0_1 t]

/-- Window 2's block is its array. -/
theorem iblk0_2 (t : Fin cfg0.N) (c : Fin 1024) : iblk0 V d 2 t (ix2 0 c) = V d main_v13 (ix2 0 c) := by
  blk_ext [iblk0, idx0_2 t]

/-- Window 3's block is its array. -/
theorem iblk0_3 (t : Fin cfg0.N) (c : Fin 1024) : iblk0 V d 3 t (ix2 0 c) = V d main_v16 (ix2 0 c) := by
  blk_ext [iblk0, idx0_3 t]

/-- Window 4's block is its array. -/
theorem iblk0_4 (t : Fin cfg0.N) (c : Fin 1024) : iblk0 V d 4 t (ix2 0 c) = V d main_v17 (ix2 0 c) := by
  blk_ext [iblk0, idx0_4 t]

/-- Window 5's block is its array. -/
theorem iblk0_5 (t : Fin cfg0.N) (e c : Fin 1024) : iblk0 V d 5 t (ix2 e c) = V d main_v1 (ix2 e c) := by
  blk_ext [iblk0, idx0_5 t]

/-- Window 6's block is its array. -/
theorem iblk0_6 (t : Fin cfg0.N) (e c : Fin 1024) : iblk0 V d 6 t (ix2 e c) = V d main_v3 (ix2 e c) := by
  blk_ext [iblk0, idx0_6 t]

/-- Window 7's block is its array. -/
theorem iblk0_7 (t : Fin cfg0.N) (e c : Fin 1024) : iblk0 V d 7 t (ix2 e c) = V d main_v5 (ix2 e c) := by
  blk_ext [iblk0, idx0_7 t]

/-- The batch row a point's block row `r` is. -/
def rowOf (n r : ℕ) : Fin 8 := ⟨(n / 8 * 2 + r) % 8, Nat.mod_lt _ (by decide)⟩

/-- The parameters at every point. -/
theorem params (t : Fin cfg0.N) : Params (args m d) (iblk0 (E1 m) d 1 t) (iblk0 (E1 m) d 2 t) (iblk0 (E1 m) d 3 t) (iblk0 (E1 m) d 4 t)
    (iblk0 (E1 m) d 5 t) (iblk0 (E1 m) d 6 t) (iblk0 (E1 m) d 7 t) where
  g c := (iblk0_1 d (E1 m) t c).trans (entry_v12 m d c)
  b c := (iblk0_2 d (E1 m) t c).trans (entry_v13 m d c)
  d c := (iblk0_3 d (E1 m) t c).trans (entry_v16 m d c)
  f c := (iblk0_4 d (E1 m) t c).trans (entry_v17 m d c)
  k e c := (iblk0_5 d (E1 m) t e c).trans (entry_v1 m d e c)
  v e c := (iblk0_6 d (E1 m) t e c).trans (entry_v3 m d e c)
  r e c := (iblk0_7 d (E1 m) t e c).trans (entry_v5 m d e c)

/-- The steps of a point's first row. -/
theorem steps0 (t : Fin cfg0.N) : Steps (args m d) (rowOf t.val 0) (t.val % 8 * 256) (xb0 (iblk0 (E1 m) d 0 t)) where
  le := by omega
  x s h c := (ld_xb (iblk0 (E1 m) d 0 t) 0 0 rfl inb_S2x256x1024_S1x256x1024_0_0_0 s c).trans
    ((iblk0_0 d (E1 m) t 0 s c (rowOf t.val 0) ⟨t.val % 8 * 256 + s, h⟩
      (by have : t.val < 32 := t.isLt; show (t.val / 8 * 2 + 0) % 8 = t.val / 8 * 2 + 0; omega) rfl).trans (entry_x m d _ _ c))

/-- The steps of a point's second row. -/
theorem steps1 (t : Fin cfg0.N) : Steps (args m d) (rowOf t.val 1) (t.val % 8 * 256) (xb1 (iblk0 (E1 m) d 0 t)) where
  le := by omega
  x s h c := (ld_xb (iblk0 (E1 m) d 0 t) 1 1 rfl inb_S2x256x1024_S1x256x1024_1_0_0 s c).trans
    ((iblk0_0 d (E1 m) t 1 s c (rowOf t.val 1) ⟨t.val % 8 * 256 + s, h⟩
      (by have : t.val < 32 := t.isLt; show (t.val / 8 * 2 + 1) % 8 = t.val / 8 * 2 + 1; omega) rfl).trans (entry_x m d _ _ c))

variable {m d}

/-- The carry entering every point. -/
theorem both_cin (H : (args m d).Real) : ∀ n, n < cfg0.N → Both (args m d) (rowOf n 0) (rowOf n 1) (n % 8 * 256) (cin (E1 m) d n)
  | 0, _ => by rw [cin_first (E1 m) d 0 rfl]; exact both_init
  | n + 1, h => by
    by_cases h0 : (n + 1) % 8 = 0
    · rw [cin_first (E1 m) d _ h0, h0]; exact both_init
    · have hn : n < cfg0.N := Nat.lt_of_succ_lt h
      have ih := both_cin H n hn
      have e := cin_next (E1 m) d ⟨n, hn⟩ h0
      have hT : (n + 1) % 8 * 256 = n % 8 * 256 + 256 := by omega
      have hr : ∀ r, rowOf (n + 1) r = rowOf n r := fun r => by
        have : (n + 1) / 8 = n / 8 := by omega
        exact Fin.ext (by show ((n + 1) / 8 * 2 + r) % 8 = (n / 8 * 2 + r) % 8; rw [this])
      rw [hT, hr, hr]
      refine (e ▸ both_next H (params m d ⟨n, hn⟩) (steps0 m d ⟨n, hn⟩) (steps1 m d ⟨n, hn⟩) ih : _)

/-- A point's row, by the row's number. -/
theorem rowOf_ite (n : ℕ) (hn : n < 32) (r : Fin 2) (i : Fin 8) (hi : i.val = n / 8 * 2 + r.val) :
    (if r.val = 0 then rowOf n 0 else rowOf n 1) = i := by
  have := r.isLt
  by_cases h : r.val = 0
  · rw [if_pos h]; exact Fin.ext (by show (n / 8 * 2 + 0) % 8 = i.val; omega)
  · rw [if_neg h]; exact Fin.ext (by show (n / 8 * 2 + 1) % 8 = i.val; omega)

/-- The time mix's array. -/
theorem arr_y (H : (args m d).Real) :
    (dat0 (E1 m) d).arrAt 8 cfg0.N = (fun y => (args m d).y (y 0) (y 1) (y 2) : S8x2048x1024.Idx → EReal) := by
  refine (dat0 (E1 m) d).arrAt_eq_of_covers 8 _ (by decide +kernel) fun t hf y => ?_
  blk_simp
  rw [after0_8]
  idx_vars y
  refine (outY_val H (params m d t) (steps0 m d t) (steps1 m d t) (both_cin H t.val t.isLt) y0 y1 y2).trans ?_
  have e0 : ((((View.whole main_v18_0).slice (win0_8.rect t)).emb (ix3 y0 y1 y2) 0).val : ℕ) = t.val / 8 * 2 + y0.val := by
    blk_simp [idx0_8 t]
  have e1 : ((((View.whole main_v18_0).slice (win0_8.rect t)).emb (ix3 y0 y1 y2) 1).val : ℕ) = t.val % 8 * 256 + y1.val := by
    blk_simp [idx0_8 t]
  have e2 : ((((View.whole main_v18_0).slice (win0_8.rect t)).emb (ix3 y0 y1 y2) 2).val : ℕ) = y2.val := by
    blk_simp [idx0_8 t]
  rw [rowOf_ite t.val t.isLt y0 _ e0]
  exact congrArg₂ (fun a b => (args m d).y _ a b) (Fin.ext e1.symm) (Fin.ext e2.symm)

/-- The state's array. -/
theorem arr_s (H : (args m d).Real) :
    (dat0 (E1 m) d).arrAt 9 cfg0.N = (fun y => (args m d).state (y 0) (y 2) (y 1) : S8x3x1024.Idx → EReal) := by
  have hfl : ∀ t : Fin cfg0.N, (cfg0.win 9).flush t = true → t.val % 8 = 7 := (by decide +kernel : ∀ t : Fin grid0.N, _)
  refine (dat0 (E1 m) d).arrAt_eq_of_covers 9 _ (by decide +kernel) fun t hf y => ?_
  have h7 := hfl t hf
  blk_simp
  rw [after0_9]
  idx_vars y
  refine (outS_val H (params m d t) (steps0 m d t) (steps1 m d t) (both_cin H t.val t.isLt) y0 y1 y2 (by rw [h7])).trans ?_
  have e0 : ((((View.whole main_v18_1).slice (win0_9.rect t)).emb (ix3 y0 y1 y2) 0).val : ℕ) = t.val / 8 * 2 + y0.val := by
    blk_simp [idx0_9 t]
  have e1 : ((((View.whole main_v18_1).slice (win0_9.rect t)).emb (ix3 y0 y1 y2) 1).val : ℕ) = y1.val := by
    blk_simp [idx0_9 t]
  have e2 : ((((View.whole main_v18_1).slice (win0_9.rect t)).emb (ix3 y0 y1 y2) 2).val : ℕ) = y2.val := by
    blk_simp [idx0_9 t]
  rw [rowOf_ite t.val t.isLt y0 _ e0]
  exact congrArg₂ (fun a b => (args m d).state _ b a) (Fin.ext e1.symm) (Fin.ext e2.symm)

end Cert.KernelIdeal.Hand

end
-- ==== Proof.CmArr.lean ====
/- The channel-mix call's body at an index, and its array after the call. -/
module

public import proofs.«01_k».proof.Proof.TmArr

@[expose] public section

noncomputable section

namespace Cert.KernelIdeal.Hand

open Cert.KernelIdeal Cert.KernelIdeal.Gen
open Idealize.ShloMosaic Idealize.ShloMosaic.TcCoe
open Idealize.ShloMosaic.Pipeline (Dat Cfg Window)
open Cert.Wkv

/-- The parameter blocks of the channel-mix call stand for the arguments. -/
structure CmParams (p : Args) (lg lb : Vec Ideal S1x1024 .f32) (wr : Vec Ideal S1024x1024 .bf16) (wk : Vec Ideal S1024x4096 .bf16)
    (wv : Vec Ideal S4096x1024 .bf16) : Prop where
  g : ∀ c, @Eq EReal (lg (ix2 0 c)) (p.g2 c)
  b : ∀ c, @Eq EReal (lb (ix2 0 c)) (p.b2 c)
  r : ∀ e c, @Eq EReal (wr (ix2 e c)) (p.wrc c e)
  k : ∀ e j, @Eq EReal (wk (ix2 e j)) (p.wkc j e)
  v : ∀ j c, @Eq EReal (wv (ix2 j c)) (p.wvc c j)

section Block

variable {p : Args} {x0 : Vec Ideal S1x1024x1024 .f32} {x1 x2 : Vec Ideal S1x1024 .f32} {x3 : Vec Ideal S1024x1024 .bf16} {x4 : Vec Ideal S1024x4096 .bf16}
  {x5 : Vec Ideal S4096x1024 .bf16}

/-- The normalised block. -/
theorem cm_ln (Q : CmParams p x1 x2 x3 x4 x5) (s : Fin 1024) (row : Fin 1024 → EReal) (hrow : ∀ e, @Eq EReal (x0 (ix3 0 s e)) (row e))
    (hreal : ∀ e, IsR (row e)) (c : Fin 1024) : (k1_pay4 x0 x1 x2 (ix2 s c) : EReal) = lnR row p.g2 p.b2 c := by
  have e : (k1_pay4 x0 x1 x2 (ix2 s c) : EReal)
      = lnK (fun e => x0 (ix3 0 s e)) (fun e => x1 (ix2 0 e)) (fun e => x2 (ix2 0 e)) c := by
    unfold lnK mean len eps
    pointwise! [k1_pay4, k1_pay3]
  have ex : (fun e => (x0 (ix3 0 s e) : EReal)) = row := funext hrow
  have eg : (fun e => (x1 (ix2 0 e) : EReal)) = p.g2 := funext Q.g
  have eb : (fun e => (x2 (ix2 0 e) : EReal)) = p.b2 := funext Q.b
  rw [e, ex, eg, eb]
  exact lnK_eq hreal p.g2 p.b2 c

/-- The channel mix of a block's row. -/
theorem cmOut_val (Q : CmParams p x1 x2 x3 x4 x5) (s : Fin 1024) (row : Fin 1024 → EReal) (hrow : ∀ e, @Eq EReal (x0 (ix3 0 s e)) (row e))
    (hreal : ∀ e, IsR (row e)) (c : Fin 1024) : (cmOut x0 x1 x2 x3 x4 x5 (ix3 0 s c) : EReal) = p.cm row c := by
  have e3 : (k1_pay3 x0 (ix2 s c) : EReal) = row c := by
    rw [← hrow c]; pointwise [k1_pay3]
  have e5 : (k1_pay5 x0 x1 x2 x3 (ix2 s c) : EReal) = Ideal.logistic (proj (lnR row p.g2 p.b2) p.wrc c) := by
    have e : (k1_pay5 x0 x1 x2 x3 (ix2 s c) : EReal) = Ideal.logistic (∑ e : Fin 1024, k1_pay4 x0 x1 x2 (ix2 s e) * x3 (ix2 e c)) := by
      pointwise! [k1_pay5]
    rw [e]; congr 1
    exact Finset.sum_congr rfl fun e _ => by rw [cm_ln Q s row hrow hreal, Q.r]
  have e6 : ∀ j : Fin 4096, (k1_pay6 x0 x1 x2 x4 (ix2 s j) : EReal) = p.hid row j * p.hid row j := fun j => by
    have e : (k1_pay6 x0 x1 x2 x4 (ix2 s j) : EReal) = max (∑ e : Fin 1024, k1_pay4 x0 x1 x2 (ix2 s e) * x4 (ix2 e j)) 0
        * max (∑ e : Fin 1024, k1_pay4 x0 x1 x2 (ix2 s e) * x4 (ix2 e j)) 0 := by
      pointwise! [k1_pay6]
    have es : (∑ e : Fin 1024, k1_pay4 x0 x1 x2 (ix2 s e) * x4 (ix2 e j) : EReal) = ∑ e : Fin 1024, lnR row p.g2 p.b2 e * p.wkc j e :=
      Finset.sum_congr rfl fun e _ => by rw [cm_ln Q s row hrow hreal, Q.k]
    rw [e, es]; rfl
  have e2 : ∀ (v1 v32 : FVec Ideal S1024x1024 .f32) (h : FVec Ideal S1024x4096 .f32), (k1_pay2 v1 v32 (k1_pay1 h) x5 (ix3 0 s c) : EReal)
      = v1 (ix2 s c) + v32 (ix2 s c) * ∑ j : Fin 4096, h (ix2 s j) * x5 (ix2 j c) := fun v1 v32 h => by
    pointwise! [k1_pay2, k1_pay1]
  show (k1_pay2 (k1_pay3 x0) (k1_pay5 x0 x1 x2 x3) (k1_pay1 (k1_pay6 x0 x1 x2 x4)) x5 (ix3 0 s c) : EReal) = _
  rw [e2, e3, e5]
  unfold Args.cm
  congr 2
  exact Finset.sum_congr rfl fun j _ => by rw [e6, Q.v]

end Block

/-- The one store of the channel mix fills its block. -/
theorem outCm_eq (x0 : Vec Ideal S1x1024x1024 .f32) (x1 x2 : Vec Ideal S1x1024 .f32) (x3 : Vec Ideal S1024x1024 .bf16) (x4 : Vec Ideal S1024x4096 .bf16)
    (x5 : Vec Ideal S4096x1024 .bf16) : outCm x0 x1 x2 x3 x4 x5 = cmOut x0 x1 x2 x3 x4 x5 := by
  unfold outCm
  exact cm_canon3 _ _ _

variable (m : (ℓ : Loc nD τ sig) → Buf (Elt Ideal) ℓ) (d : Dev nD)
variable (V : (c : Dev nD) → (b : Ref sig .tc) → Buf (Elt Ideal) ((c : Thread nD τ).loc b))

/-- The block each window is at, point by point. -/
theorem idx1_0 : ∀ t : Fin cfg1.N, win1_0.index t = ![t.val / 2, t.val % 2, 0] := (by decide +kernel : ∀ t : Fin grid1.N, _)
/-- Which block of the scale a point works on. -/
theorem idx1_1 : ∀ t : Fin cfg1.N, win1_1.index t = ![0, 0] := (by decide +kernel : ∀ t : Fin grid1.N, _)
/-- Which block of the shift a point works on. -/
theorem idx1_2 : ∀ t : Fin cfg1.N, win1_2.index t = ![0, 0] := (by decide +kernel : ∀ t : Fin grid1.N, _)
/-- Which block of the receptance weight a point works on. -/
theorem idx1_3 : ∀ t : Fin cfg1.N, win1_3.index t = ![0, 0] := (by decide +kernel : ∀ t : Fin grid1.N, _)
/-- Which block of the key weight a point works on. -/
theorem idx1_4 : ∀ t : Fin cfg1.N, win1_4.index t = ![0, 0] := (by decide +kernel : ∀ t : Fin grid1.N, _)
/-- Which block of the value weight a point works on. -/
theorem idx1_5 : ∀ t : Fin cfg1.N, win1_5.index t = ![0, 0] := (by decide +kernel : ∀ t : Fin grid1.N, _)
/-- Which block of the output a point works on. -/
theorem idx1_6 : ∀ t : Fin cfg1.N, win1_6.index t = ![t.val / 2, t.val % 2, 0] := (by decide +kernel : ∀ t : Fin grid1.N, _)

/-- The input block at an index. -/
theorem iblk1_0 (t : Fin cfg1.N) (s : Fin 1024) (c : Fin 1024) (i : Fin 8) (q : Fin 2048) (hi : i.val = t.val / 2) (hq : q.val = t.val % 2 * 1024 + s.val) :
    iblk1 V d 0 t (ix3 0 s c) = V d main_v18_0 (ix3 i q c) := by
  blk_ext [iblk1, idx1_0 t]

/-- Window 1's block is its array. -/
theorem iblk1_1 (t : Fin cfg1.N) (c : Fin 1024) : iblk1 V d 1 t (ix2 0 c) = V d main_v14 (ix2 0 c) := by
  blk_ext [iblk1, idx1_1 t]

/-- Window 2's block is its array. -/
theorem iblk1_2 (t : Fin cfg1.N) (c : Fin 1024) : iblk1 V d 2 t (ix2 0 c) = V d main_v15 (ix2 0 c) := by
  blk_ext [iblk1, idx1_2 t]

/-- Window 3's block is its array. -/
theorem iblk1_3 (t : Fin cfg1.N) (e c : Fin 1024) : iblk1 V d 3 t (ix2 e c) = V d main_v11 (ix2 e c) := by
  blk_ext [iblk1, idx1_3 t]

/-- Window 4's block is its array. -/
theorem iblk1_4 (t : Fin cfg1.N) (e : Fin 1024) (j : Fin 4096) : iblk1 V d 4 t (ix2 e j) = V d main_v7 (ix2 e j) := by
  blk_ext [iblk1, idx1_4 t]

/-- Window 5's block is its array. -/
theorem iblk1_5 (t : Fin cfg1.N) (j : Fin 4096) (c : Fin 1024) : iblk1 V d 5 t (ix2 j c) = V d main_v9 (ix2 j c) := by
  blk_ext [iblk1, idx1_5 t]

/-- A buffer the time-mix call does not write is as it found it. -/
theorem keep (b : Ref sig .tc) (h : ∀ w : Fin cfg0.W, Pipeline.arrRef spec0 w = b → (cfg0.win w).isOut = false) : E2 m d b = E1 m d b :=
  W2_of m d b h

/-- The parameters at every point. -/
theorem cmParams (t : Fin cfg1.N) : CmParams (args m d) (iblk1 (E2 m) d 1 t) (iblk1 (E2 m) d 2 t) (iblk1 (E2 m) d 3 t) (iblk1 (E2 m) d 4 t)
    (iblk1 (E2 m) d 5 t) where
  g c := (iblk1_1 d (E2 m) t c).trans ((congrFun (keep m d main_v14 (by decide)) _).trans (entry_v14 m d c))
  b c := (iblk1_2 d (E2 m) t c).trans ((congrFun (keep m d main_v15 (by decide)) _).trans (entry_v15 m d c))
  r e c := (iblk1_3 d (E2 m) t e c).trans ((congrFun (keep m d main_v11 (by decide)) _).trans (entry_v11 m d e c))
  k e j := (iblk1_4 d (E2 m) t e j).trans ((congrFun (keep m d main_v7 (by decide)) _).trans (entry_v7 m d e j))
  v j c := (iblk1_5 d (E2 m) t j c).trans ((congrFun (keep m d main_v9 (by decide)) _).trans (entry_v9 m d j c))

variable {m d}

/-- The time mix's output, as the second call finds it. -/
theorem E2_y (H : (args m d).Real) (i : Fin 8) (t : Fin 2048) (c : Fin 1024) : @Eq EReal (E2 m d main_v18_0 (ix3 i t c)) ((args m d).y i t c) :=
  congrFun ((W2_arr m d 8).trans (arr_y H)) (ix3 i t c)

/-- The channel mix's array. -/
theorem arr_out (H : (args m d).Real) :
    (dat1 (E2 m) d).arrAt 6 cfg1.N = (fun y => (args m d).out (y 0) (y 1) (y 2) : S8x2048x1024.Idx → EReal) := by
  refine (dat1 (E2 m) d).arrAt_eq_of_covers 6 _ (by decide +kernel) fun t hf y => ?_
  blk_simp
  rw [after1_6]
  idx_vars y
  refine (congrFun (outCm_eq _ _ _ _ _ _) (ix3 y0 y1 y2)).trans ?_
  obtain rfl : y0 = 0 := Subsingleton.elim _ _
  have ht : t.val < 16 := t.isLt
  have hs := y1.isLt
  have e0 : ((((View.whole main_v19).slice (win1_6.rect t)).emb (ix3 0 y1 y2) 0).val : ℕ) = t.val / 2 := by
    blk_simp [idx1_6 t]
    rfl
  have e1 : ((((View.whole main_v19).slice (win1_6.rect t)).emb (ix3 0 y1 y2) 1).val : ℕ) = t.val % 2 * 1024 + y1.val := by
    blk_simp [idx1_6 t]
  have e2 : ((((View.whole main_v19).slice (win1_6.rect t)).emb (ix3 0 y1 y2) 2).val : ℕ) = y2.val := by
    blk_simp [idx1_6 t]
  generalize hi : ((View.whole main_v19).slice (win1_6.rect t)).emb (ix3 0 y1 y2) = I at e0 e1 e2 ⊢
  refine (cmOut_val (cmParams m d t) y1 ((args m d).y (I 0) (I 1)) (fun e => (iblk1_0 d (E2 m) t y1 e (I 0) (I 1) e0 e1).trans (E2_y H (I 0) (I 1) e))
    (fun e => H.y _ _ e) y2).trans ?_
  exact congrArg ((args m d).cm ((args m d).y (I 0) (I 1))) (Fin.ext e2.symm)

end Cert.KernelIdeal.Hand

end
-- ==== Proof.KerOut.lean ====
/- What the kernel's two results hold when it ends. -/
module

public import proofs.«01_k».proof.Proof.CmArr

@[expose] public section

noncomputable section

namespace Cert.KernelIdeal.Hand

open Cert.KernelIdeal Cert.KernelIdeal.Gen
open Idealize.ShloMosaic Idealize.ShloMosaic.TcCoe
open Cert.Wkv

variable {m : (ℓ : Loc nD τ sig) → Buf (Elt Ideal) ℓ} {d : Dev nD}

/-- The first result: the block's output. -/
theorem end_out (H : (args m d).Real) (i : Fin 8) (t : Fin 2048) (c : Fin 1024) :
    @Eq EReal (W4 m d main_v19 (ix3 i t c)) ((args m d).out i t c) := by
  have h : W4 m d main_v19 = W3 m d main_v19 := by
    unfold W4
    entry_read
    rfl
  rw [h, W3_arr m d 6]
  exact congrFun (arr_out H) (ix3 i t c)

/-- The second result: the recurrence's state. -/
theorem end_state (H : (args m d).Real) (i : Fin 8) (c : Fin 1024) (j : Fin 3) :
    @Eq EReal (W4 m d main_v20 (ix3 i c j)) ((args m d).state i c j) := by
  have h : @Eq EReal (W4 m d main_v20 (ix3 i c j)) (W3 m d main_v18_1 (ix3 i j c)) := by
    unfold W4
    entry_read
    pointwise
  have h3 : W3 m d main_v18_1 = W2 m d main_v18_1 := W3_of_ne m d main_v18_1 (by decide)
  rw [h, h3, W2_arr m d 9]
  exact congrFun (arr_s H) (ix3 i j c)

end Cert.KernelIdeal.Hand

end
-- ==== Proof.RefVal.lean ====
/- The reference's operations outside its loop, named, and what they are at an index on the extended reals. -/
module

public import proofs.«01_k».proof.Proof.RefRun
public import proofs.«01_k».proof.Proof.Ln
public import Idealize.ShloMosaic.Lib.Pointwise

@[expose] public section

noncomputable section

namespace Cert.ReferenceIdeal.Hand

open Idealize.ShloMosaic Idealize.ShloMosaic.TcCoe
open Cert.ReferenceIdeal Cert.ReferenceIdeal.Gen
open Cert.ReferenceIdeal.Step
open Cert.Wkv

section Ops

variable {F : FTy → Type} [FloatOps F]

/-- A full tensor of activations. -/
abbrev Act (F : FTy → Type) [FloatOps F] := (⟨S8x2048x1024, .f32⟩ : BufTy).Contents (Elt F)
/-- A vector over the channels. -/
abbrev Chan (F : FTy → Type) [FloatOps F] := (⟨S1024, .f32⟩ : BufTy).Contents (Elt F)

/-- The mean over the channels, kept as a trailing axis of one. -/
def refMean (x : Act F) : (⟨S8x2048x1, .f32⟩ : BufTy).Contents (Elt F) :=
  Host.divf (broadcastInDim S8x2048x1 ![0, 1] bcast_S8x2048_S8x2048x1_0_1
      (Host.reduceAdd x (constant S_ .f32 0x00000000#32) reducesTo_S8x2048x1024_S8x2048_d2 h_S_))
    (broadcastInDim S8x2048x1 ![] bcast_S_S8x2048x1 (constant S_ .f32 0x44800000#32))

/-- The deviation from the mean. -/
def refDev (x : Act F) : Act F := subf x (broadcastInDim S8x2048x1024 ![0, 1, 2] bcast_S8x2048x1_S8x2048x1024_0_1_2 (refMean x))

/-- A channel vector spread over the tensor. -/
def refSpread (g : Chan F) : Act F :=
  broadcastInDim S8x2048x1024 ![0, 1, 2] bcast_S1x1x1024_S8x2048x1024_0_1_2 (broadcastInDim S1x1x1024 ![2] bcast_S1024_S1x1x1024_2 g)

/-- The layer norm. -/
def refLN (x : Act F) (g b : Chan F) : Act F :=
  addf (mulf (mulf (refDev x) (broadcastInDim S8x2048x1024 ![0, 1, 2] bcast_S8x2048x1_S8x2048x1024_0_1_2
      (Host.rsqrt (addf (refMean (mulf (refDev x) (refDev x))) (broadcastInDim S8x2048x1 ![] bcast_S_S8x2048x1 (constant S_ .f32 0x3727C5AC#32))))))
    (refSpread g)) (refSpread b)

/-- The step before, zero before the first. -/
def refPrev (h : Act F) : Act F :=
  pad S8x2048x1024 ![0, 1, 0] ![0, 0, 0] ![0, 0, 0] (extractStridedSlice S8x2047x1024 ![0, 0, 0] h slices_S8x2048x1024_S8x2047x1024_0_0_0)
    (sitofp .f32 (constantI S_ 32 0#32)) pads_S8x2047x1024_S8x2048x1024_000_100_000 h_S_

/-- The mix of a step with the one before. -/
def refShift (h : Act F) (r : Chan F) : Act F :=
  addf (mulf h (refSpread r))
    (mulf (refPrev h) (refSpread (subf (broadcastInDim S1024 ![] bcast_S_S1024 (constant S_ .f32 0x3F800000#32)) r)))

/-- A product with a transposed square matrix. -/
def refProj (h : Act F) (W : (⟨S1024x1024, .f32⟩ : BufTy).Contents (Elt F)) : Act F :=
  Host.dotGeneral dot_S8x2048x1024_S1024x1024_S8x2048x1024_2_0_01_1_n_n none h
    (transpose S1024x1024 [1, 0] W transposes_S1024x1024_S1024x1024_1_0)

/-- The gate of a product. -/
def refGate (h : Act F) (W : (⟨S1024x1024, .f32⟩ : BufTy).Contents (Elt F)) : Act F :=
  Host.divf (broadcastInDim S8x2048x1024 ![] bcast_S_S8x2048x1024 (constant S_ .f32 0x3F800000#32))
    (addf (broadcastInDim S8x2048x1024 ![] bcast_S_S8x2048x1024 (constant S_ .f32 0x3F800000#32)) (Host.exp (Host.negf (refProj h W))))

/-- The rectified product with the wide matrix. -/
def refHid (h : Act F) (W : (⟨S4096x1024, .f32⟩ : BufTy).Contents (Elt F)) : (⟨S8x2048x4096, .f32⟩ : BufTy).Contents (Elt F) :=
  maximumf (Host.dotGeneral dot_S8x2048x1024_S1024x4096_S8x2048x4096_2_0_01_1_n_n none h
      (transpose S1024x4096 [1, 0] W transposes_S4096x1024_S1024x4096_1_0))
    (broadcastInDim S8x2048x4096 ![] bcast_S_S8x2048x4096 (constant S_ .f32 0x00000000#32))

/-- Its square through the second matrix. -/
def refFfn (h : Act F) (W : (⟨S4096x1024, .f32⟩ : BufTy).Contents (Elt F)) (W' : (⟨S1024x4096, .f32⟩ : BufTy).Contents (Elt F)) : Act F :=
  Host.dotGeneral dot_S8x2048x4096_S4096x1024_S8x2048x1024_2_0_01_1_n_n none (mulf (refHid h W) (refHid h W))
    (transpose S4096x1024 [1, 0] W' transposes_S1024x4096_S4096x1024_1_0)

/-- The time mix's output of the averages `o`. -/
def refY (x : Act F) (g b : Chan F) (r : Chan F) (W : (⟨S1024x1024, .f32⟩ : BufTy).Contents (Elt F))
    (o : (⟨S2048x8x1024, .f32⟩ : BufTy).Contents (Elt F)) : Act F :=
  addf x (mulf (refGate (refShift (refLN x g b) r) W) (transpose S8x2048x1024 [1, 0, 2] o transposes_S2048x8x1024_S8x2048x1024_1_0_2))

/-- The channel mix's output. -/
def refCm (y : Act F) (g b rk rr : Chan F) (Wk : (⟨S4096x1024, .f32⟩ : BufTy).Contents (Elt F)) (Wv : (⟨S1024x4096, .f32⟩ : BufTy).Contents (Elt F))
    (Wr : (⟨S1024x1024, .f32⟩ : BufTy).Contents (Elt F)) : Act F :=
  addf y (mulf (refGate (refShift (refLN y g b) rr) Wr) (refFfn (refShift (refLN y g b) rk) Wk Wv))

/-- The first result is the channel mix of the time mix of what the loop put out. -/
theorem R_out (s : State F) (a0 : Act F) (a5 : (⟨S1024x1024, .f32⟩ : BufTy).Contents (Elt F)) (a6 : (⟨S4096x1024, .f32⟩ : BufTy).Contents (Elt F))
    (a7 : (⟨S1024x4096, .f32⟩ : BufTy).Contents (Elt F)) (a8 : (⟨S1024x1024, .f32⟩ : BufTy).Contents (Elt F)) (a9 a10 a11 a12 a15 a16 a17 : Chan F) :
    R_main_v169 s a0 a5 a6 a7 a8 a9 a10 a11 a12 a15 a16 a17
      = refCm (refY a0 a9 a10 a15 a5 s.main_v57_8) a11 a12 a16 a17 a6 a7 a8 := rfl

/-- The keys the loop reads. -/
theorem init_K (a2 : Chan F) (a0 : Act F) (a1 : Chan F) (a3 a4 : (⟨S1024x1024, .f32⟩ : BufTy).Contents (Elt F)) (a9 a10 a13 a14 : Chan F) :
    (Step.init a2 a0 a1 a3 a4 a9 a10 a13 a14).main_v57_0
      = transpose S2048x8x1024 [1, 0, 2] (refProj (refShift (refLN a0 a9 a10) a13) a3) transposes_S8x2048x1024_S2048x8x1024_1_0_2 := rfl

/-- The values the loop reads. -/
theorem init_V (a2 : Chan F) (a0 : Act F) (a1 : Chan F) (a3 a4 : (⟨S1024x1024, .f32⟩ : BufTy).Contents (Elt F)) (a9 a10 a13 a14 : Chan F) :
    (Step.init a2 a0 a1 a3 a4 a9 a10 a13 a14).main_v57_1
      = transpose S2048x8x1024 [1, 0, 2] (refProj (refShift (refLN a0 a9 a10) a14) a4) transposes_S8x2048x1024_S2048x8x1024_1_0_2 := rfl

/-- The decay the loop reads. -/
theorem init_W (a2 : Chan F) (a0 : Act F) (a1 : Chan F) (a3 a4 : (⟨S1024x1024, .f32⟩ : BufTy).Contents (Elt F)) (a9 a10 a13 a14 : Chan F) :
    (Step.init a2 a0 a1 a3 a4 a9 a10 a13 a14).main_v57_3 = Host.negf (Host.exp a1) := rfl

end Ops

section Ideal

variable (x h : Act Ideal) (g b r : Chan Ideal) (W : (⟨S1024x1024, .f32⟩ : BufTy).Contents (Elt Ideal))
  (W1 : (⟨S4096x1024, .f32⟩ : BufTy).Contents (Elt Ideal)) (W2 : (⟨S1024x4096, .f32⟩ : BufTy).Contents (Elt Ideal))
  (i : Fin 8) (t : Fin 2048) (d : Fin 1024)

/-- The mean of a row. -/
theorem refMean_apply : (refMean x (ix3 i t 0) : EReal) = mean (fun e => x (ix3 i t e)) := by
  unfold mean len
  pointwise! [refMean]

/-- An element's deviation from its row's mean. -/
theorem refDev_apply : (refDev x (ix3 i t d) : EReal) = x (ix3 i t d) - refMean x (ix3 i t 0) := by
  pointwise! [refDev]

/-- The reference's layer norm at an index. -/
theorem refLN_apply : (refLN x g b (ix3 i t d) : EReal)
    = lnR (fun e => x (ix3 i t e)) (fun e => g (ix1 e)) (fun e => b (ix1 e)) d := by
  have h : (refLN x g b (ix3 i t d) : EReal)
      = refDev x (ix3 i t d) * Ideal.rsqrt (refMean (mulf (refDev x) (refDev x)) (ix3 i t 0) + Ideal.ofBits FTy.f32 925353388#32) * g (ix1 d) + b (ix1 d) := by
    pointwise! [refLN, refSpread]
  rw [h, refMean_apply]
  unfold lnR eps
  have e : ∀ e : Fin 1024, (mulf (refDev x) (refDev x) (ix3 i t e) : EReal)
      = (x (ix3 i t e) - mean (fun e => x (ix3 i t e))) * (x (ix3 i t e) - mean (fun e => x (ix3 i t e))) := fun e => by
    rw [← refMean_apply, ← refDev_apply]; rfl
  rw [mean, Finset.sum_congr rfl fun e' _ => e e', refDev_apply, refMean_apply]

/-- A mix of ratio one is the step itself. -/
theorem refShift_apply (hr : (r (ix1 d) : EReal) = 1) : (refShift x r (ix3 i t d) : EReal) = x (ix3 i t d) := by
  have h : (refShift x r (ix3 i t d) : EReal) = x (ix3 i t d) * r (ix1 d) + refPrev x (ix3 i t d) * (1 - r (ix1 d)) := by
    pointwise! [refShift, refSpread]
  rw [h, hr, show (1 : EReal) - 1 = 0 from EReal.sub_self (by decide) (by decide), mul_zero, add_zero, mul_one]

/-- A product with a transposed square matrix, as a sum over the channels. -/
theorem refProj_apply : (refProj h W (ix3 i t d) : EReal) = ∑ e : Fin 1024, h (ix3 i t e) * W (ix2 d e) := by
  pointwise! [refProj]

/-- The gate is the logistic function of a product. -/
theorem refGate_apply : (refGate h W (ix3 i t d) : EReal) = Ideal.logistic (∑ e : Fin 1024, h (ix3 i t e) * W (ix2 d e)) := by
  have e : (refGate h W (ix3 i t d) : EReal) = Ideal.div 1 (1 + Ideal.exp (-refProj h W (ix3 i t d))) := by
    pointwise! [refGate]
  rw [e, refProj_apply]; rfl

/-- A product with the wide matrix, rectified. -/
theorem refHid_apply (j : Fin 4096) : (refHid h W1 (ix3 i t j) : EReal) = max (∑ e : Fin 1024, h (ix3 i t e) * W1 (ix2 j e)) 0 := by
  pointwise! [refHid]

/-- The squared hidden row through the second matrix. -/
theorem refFfn_apply : (refFfn h W1 W2 (ix3 i t d) : EReal)
    = ∑ j : Fin 4096, refHid h W1 (ix3 i t j) * refHid h W1 (ix3 i t j) * W2 (ix2 d j) := by
  pointwise! [refFfn]

end Ideal

end Cert.ReferenceIdeal.Hand

end
-- ==== Proof.RefLoop.lean ====
/- The reference's loop: its state before step `n` is the recurrence of every batch row and channel before step `n`. -/
module

public import proofs.«01_k».proof.Proof.RefVal

@[expose] public section

noncomputable section

namespace Cert.ReferenceIdeal.Hand

open Idealize.ShloMosaic Idealize.ShloMosaic.TcCoe
open Cert.ReferenceIdeal Cert.ReferenceIdeal.Gen
open Cert.ReferenceIdeal.Step
open Cert.Wkv

section Step

variable (s : State Ideal) (i : Fin 8) (c : Fin 1024) (n : ℕ) (hn : n < 2048)

/-- Where trip `n` reads and writes: at step `n`, from the first row and the first channel. -/
theorem start_eq (ht : S1x8x1024.rank = S2048x8x1024.rank) (hn : n < 2048) :
    Host.clampedStart S2048x8x1024 S1x8x1024 ht
        (fun k => BitVec.toInt ((![constantI S_ 32 (BitVec.ofNat 32 n), constantI S_ 32 0#32, constantI S_ 32 0#32] :
          Fin 3 → (⟨S_, .i32⟩ : BufTy).Contents (Elt Ideal)) k (Shape.Idx.first h_S_))) 0 = n
    ∧ Host.clampedStart S2048x8x1024 S1x8x1024 ht
        (fun k => BitVec.toInt ((![constantI S_ 32 (BitVec.ofNat 32 n), constantI S_ 32 0#32, constantI S_ 32 0#32] :
          Fin 3 → (⟨S_, .i32⟩ : BufTy).Contents (Elt Ideal)) k (Shape.Idx.first h_S_))) 1 = 0
    ∧ Host.clampedStart S2048x8x1024 S1x8x1024 ht
        (fun k => BitVec.toInt ((![constantI S_ 32 (BitVec.ofNat 32 n), constantI S_ 32 0#32, constantI S_ 32 0#32] :
          Fin 3 → (⟨S_, .i32⟩ : BufTy).Contents (Elt Ideal)) k (Shape.Idx.first h_S_))) 2 = 0 := by
  have e : (BitVec.ofNat 32 n).toInt = (n : ℤ) := by
    simp only [BitVec.toInt, BitVec.toNat_ofNat]
    rw [Nat.mod_eq_of_lt (by omega), if_pos (by omega)]
  refine ⟨Host.clampedStart_of_le ht _ 0 n ?_ ?_, Host.clampedStart_of_le ht _ 1 0 ?_ ?_, Host.clampedStart_of_le ht _ 2 0 ?_ ?_⟩
  · exact e
  · show n + 1 ≤ 2048
    omega
  · rfl
  · exact le_rfl
  · rfl
  · exact le_rfl

include hn

/-- The key of trip `n`. -/
theorem b3_apply : (b3 n s (ix2 i c) : EReal) = s.main_v57_0 (ix3 ⟨n, hn⟩ i c) := by
  pointwise [b3, b2, b1, b0]
  congr 2
  · exact Fin.ext (start_eq n rfl hn).1
  · exact Fin.ext (by show _ + (i : ℕ) = i; rw [(start_eq n rfl hn).2.1, zero_add])
  · exact Fin.ext (by show _ + (c : ℕ) = c; rw [(start_eq n rfl hn).2.2, zero_add])

/-- The value of trip `n`. -/
theorem b7_apply : (b7 n s (ix2 i c) : EReal) = s.main_v57_1 (ix3 ⟨n, hn⟩ i c) := by
  pointwise [b7, b6, b5, b4]
  congr 2
  · exact Fin.ext (start_eq n rfl hn).1
  · exact Fin.ext (by show _ + (i : ℕ) = i; rw [(start_eq n rfl hn).2.1, zero_add])
  · exact Fin.ext (by show _ + (c : ℕ) = c; rw [(start_eq n rfl hn).2.2, zero_add])

/-- Trip `n` writes its average at step `n`. -/
theorem b38_apply (t : Fin 2048) : (b38 n s (ix3 t i c) : EReal) = if (t : ℕ) = n then b20 n s (ix2 i c) else s.main_v57_8 (ix3 t i c) := by
  pointwise [b38, b37, b36, b35]
  obtain ⟨h0, h1, h2⟩ := start_eq n rfl hn
  simp only [h0, h1, h2, Nat.sub_zero]
  by_cases h : (t : ℕ) = n
  · rw [dif_pos ⟨⟨by omega, by omega⟩, by omega, by omega⟩, if_pos h]
  · rw [dif_neg (by omega), if_neg h]

omit hn

/-- The average that a trip puts out, at a batch row and channel: the quotient of two weighted sums. -/
theorem b20_apply : (b20 n s (ix2 i c) : EReal)
    = Ideal.div (Ideal.exp (s.main_v57_7 (ix2 i c) - max (s.main_v57_7 (ix2 i c)) (s.main_v57_2 (ix1 c) + b3 n s (ix2 i c))) * s.main_v57_5 (ix2 i c)
        + Ideal.exp (s.main_v57_2 (ix1 c) + b3 n s (ix2 i c) - max (s.main_v57_7 (ix2 i c)) (s.main_v57_2 (ix1 c) + b3 n s (ix2 i c))) * b7 n s (ix2 i c))
      (Ideal.exp (s.main_v57_7 (ix2 i c) - max (s.main_v57_7 (ix2 i c)) (s.main_v57_2 (ix1 c) + b3 n s (ix2 i c)))
        + Ideal.exp (s.main_v57_2 (ix1 c) + b3 n s (ix2 i c) - max (s.main_v57_7 (ix2 i c)) (s.main_v57_2 (ix1 c) + b3 n s (ix2 i c)))) := by
  pointwise! [b20, b19, b18, b17, b16, b15, b14, b13, b12, b11, b10, b9, b8]

/-- The decayed log-normalizer that a trip stores. -/
theorem b23_apply : (b23 n s (ix2 i c) : EReal) = s.main_v57_3 (ix1 c) + s.main_v57_7 (ix2 i c) := by
  pointwise! [b21, b22, b23]

/-- The running average after a trip. -/
theorem b31_apply : (b31 n s (ix2 i c) : EReal)
    = Ideal.exp (s.main_v57_7 (ix2 i c) - max (s.main_v57_7 (ix2 i c)) (b3 n s (ix2 i c))) * s.main_v57_5 (ix2 i c)
      + Ideal.exp (b3 n s (ix2 i c) - max (s.main_v57_7 (ix2 i c)) (b3 n s (ix2 i c))) * b7 n s (ix2 i c) := by
  pointwise! [b31, b30, b29, b28, b27, b26, b25, b24]

/-- The log-normalizer after a trip. -/
theorem b34_apply : (b34 n s (ix2 i c) : EReal)
    = max (s.main_v57_7 (ix2 i c)) (b3 n s (ix2 i c))
      + Ideal.log (Ideal.exp (s.main_v57_7 (ix2 i c) - max (s.main_v57_7 (ix2 i c)) (b3 n s (ix2 i c)))
        + Ideal.exp (b3 n s (ix2 i c) - max (s.main_v57_7 (ix2 i c)) (b3 n s (ix2 i c)))) := by
  pointwise! [b34, b33, b32, b28, b27, b26, b25, b24]

/-- The second result at an index: the three rows of the loop's last state. -/
theorem R_state_apply (j : Fin 3) : (R_main_v62 s (ix3 i c j) : EReal)
    = if (j : ℕ) < 1 then s.main_v57_5 (ix2 i c) else if (j : ℕ) - 1 < 1 then s.main_v57_6 (ix2 i c) else s.main_v57_7 (ix2 i c) := by
  pointwise! [R_main_v62]

end Step

/-- A loop state stands, at batch row `i` and channel `c`, for the recurrence before step `n`. -/
structure Loops (K V : ℕ → ℝ) (u : ℝ) (w : EReal) (i : Fin 8) (c : Fin 1024) (n : ℕ) (s : State Ideal) : Prop where
  hk : ∀ t : Fin 2048, (s.main_v57_0 (ix3 t i c) : EReal) = (K t : EReal)
  hv : ∀ t : Fin 2048, (s.main_v57_1 (ix3 t i c) : EReal) = (V t : EReal)
  hu : (s.main_v57_2 (ix1 c) : EReal) = (u : EReal)
  hw : (s.main_v57_3 (ix1 c) : EReal) = w
  aa : (s.main_v57_5 (ix2 i c) : EReal) = ((A K V n : ℝ) : EReal)
  pp : (s.main_v57_7 (ix2 i c) : EReal) = P K n
  bb : n ≠ 0 → (s.main_v57_6 (ix2 i c) : EReal) = w + P K (n - 1)
  out : ∀ t : Fin 2048, (t : ℕ) < n → (s.main_v57_8 (ix3 t i c) : EReal) = ((W K V u t : ℝ) : EReal)

/-- One trip of the loop is one step of the recurrence. -/
theorem Loops.step {K V : ℕ → ℝ} {u : ℝ} {w : EReal} {i : Fin 8} {c : Fin 1024} {n : ℕ} {s : State Ideal} (hn : n < 2048) (h : Loops K V u w i c n s) :
    Loops K V u w i c (n + 1) (step n s) := by
  have hk : (b3 n s (ix2 i c) : EReal) = (K n : EReal) := by rw [b3_apply s i c n hn, h.hk]
  have hv : (b7 n s (ix2 i c) : EReal) = (V n : EReal) := by rw [b7_apply s i c n hn, h.hv]
  refine ⟨h.hk, h.hv, h.hu, h.hw, ?_, ?_, fun _ => ?_, fun t ht => ?_⟩
  · show (b31 n s (ix2 i c) : EReal) = _
    rw [b31_apply, hk, hv, h.pp, h.aa, step_A]
  · show (b34 n s (ix2 i c) : EReal) = _
    rw [b34_apply, hk, h.pp, step_P]
  · show (b23 n s (ix2 i c) : EReal) = _
    rw [b23_apply, h.hw, h.pp, Nat.add_sub_cancel]
  · show (b38 n s (ix3 t i c) : EReal) = _
    rw [b38_apply s i c n hn]
    by_cases e : (t : ℕ) = n
    · rw [if_pos e, b20_apply, hk, hv, h.pp, h.aa, h.hu, step_W, e]
    · rw [if_neg e, h.out t (by omega)]

/-- The loop's states are the recurrence's. -/
theorem loops_states (m : (ℓ : Loc nD τ sig) → Buf (Elt Ideal) ℓ) (d : Dev nD) {K V : ℕ → ℝ} {u : ℝ} {w : EReal} {i : Fin 8} {c : Fin 1024}
    (h : Loops K V u w i c 0 (initState m d)) (n : ℕ) (hn : n ≤ 2048) : Loops K V u w i c n (states m d n) := by
  induction n with
  | zero => exact h
  | succ n ih => exact (ih (by omega)).step (by omega)

end Cert.ReferenceIdeal.Hand

end
-- ==== Proof.RefOut.lean ====
/- The reference's two results at an index are the block's. -/
module

public import proofs.«01_k».proof.Proof.RefLoop
public import proofs.«01_k».proof.Proof.Spec

@[expose] public section

noncomputable section

namespace Cert.ReferenceIdeal.Hand

open Idealize.ShloMosaic Idealize.ShloMosaic.TcCoe
open Cert.ReferenceIdeal Cert.ReferenceIdeal.Gen
open Cert.ReferenceIdeal.Step
open Cert.Wkv

variable (m : (ℓ : Loc nD τ sig) → Buf (Elt Ideal) ℓ) (d : Dev nD)

/-- The reference's arguments. -/
def args : Args where
  x i t c := m ((d.tc : Thread nD τ).loc main_arg0) (ix3 i t c)
  td c := m ((d.tc : Thread nD τ).loc main_arg1) (ix1 c)
  tf c := m ((d.tc : Thread nD τ).loc main_arg2) (ix1 c)
  wk c e := m ((d.tc : Thread nD τ).loc main_arg3) (ix2 c e)
  wv c e := m ((d.tc : Thread nD τ).loc main_arg4) (ix2 c e)
  wr c e := m ((d.tc : Thread nD τ).loc main_arg5) (ix2 c e)
  wkc j e := m ((d.tc : Thread nD τ).loc main_arg6) (ix2 j e)
  wvc c j := m ((d.tc : Thread nD τ).loc main_arg7) (ix2 c j)
  wrc c e := m ((d.tc : Thread nD τ).loc main_arg8) (ix2 c e)
  g1 c := m ((d.tc : Thread nD τ).loc main_arg9) (ix1 c)
  b1 c := m ((d.tc : Thread nD τ).loc main_arg10) (ix1 c)
  g2 c := m ((d.tc : Thread nD τ).loc main_arg11) (ix1 c)
  b2 c := m ((d.tc : Thread nD τ).loc main_arg12) (ix1 c)

/-- All five mixing ratios are one. -/
structure Unmixed : Prop where
  k : ∀ c, @Eq EReal (m ((d.tc : Thread nD τ).loc main_arg13) (ix1 c)) 1
  v : ∀ c, @Eq EReal (m ((d.tc : Thread nD τ).loc main_arg14) (ix1 c)) 1
  r : ∀ c, @Eq EReal (m ((d.tc : Thread nD τ).loc main_arg15) (ix1 c)) 1
  ck : ∀ c, @Eq EReal (m ((d.tc : Thread nD τ).loc main_arg16) (ix1 c)) 1
  cr : ∀ c, @Eq EReal (m ((d.tc : Thread nD τ).loc main_arg17) (ix1 c)) 1

variable {m d}

/-- A product of an unmixed layer norm. -/
theorem proj_ln (x : Act Ideal) (g b r : Chan Ideal) (w : (⟨S1024x1024, .f32⟩ : BufTy).Contents (Elt Ideal)) (hr : ∀ c, (r (ix1 c) : EReal) = 1)
    (i : Fin 8) (t : Fin 2048) (c : Fin 1024) :
    (∑ e : Fin 1024, refShift (refLN x g b) r (ix3 i t e) * w (ix2 c e) : EReal)
      = proj (lnR (fun e => x (ix3 i t e)) (fun e => g (ix1 e)) (fun e => b (ix1 e))) (fun c e => w (ix2 c e)) c :=
  Finset.sum_congr rfl fun e _ => by rw [refShift_apply _ _ _ _ _ (hr e), refLN_apply]

/-- The loop begins at the recurrence's beginning. -/
theorem loops_init (H : (args m d).Real) (U : Unmixed m d) (i : Fin 8) (c : Fin 1024) :
    Loops ((args m d).K i c) ((args m d).V i c) ((args m d).tf c).toReal (-Ideal.exp ((args m d).td c)) i c 0 (initState m d) := by
  refine ⟨fun t => ?_, fun t => ?_, ?_, ?_, ?_, ?_, fun h => absurd rfl h, fun t ht => absurd ht (Nat.not_lt_zero _)⟩
  · unfold initState
    rw [init_K, H.K]
    have e : ∀ z : Act Ideal, (transpose S2048x8x1024 [1, 0, 2] z transposes_S8x2048x1024_S2048x8x1024_1_0_2 (ix3 t i c) : EReal) = z (ix3 i t c) := fun z => by
      pointwise! []
    rw [e, refProj_apply, proj_ln _ _ _ _ _ U.k]; rfl
  · unfold initState
    rw [init_V, H.V]
    have e : ∀ z : Act Ideal, (transpose S2048x8x1024 [1, 0, 2] z transposes_S8x2048x1024_S2048x8x1024_1_0_2 (ix3 t i c) : EReal) = z (ix3 i t c) := fun z => by
      pointwise! []
    rw [e, refProj_apply, proj_ln _ _ _ _ _ U.v]; rfl
  · rw [coe_real (H.tf c)]; rfl
  · unfold initState
    rw [init_W]; rfl
  · show Ideal.ofBits .f32 0x00000000#32 = ((0 : ℝ) : EReal)
    rw [Ideal.ofBits_zero_f32, EReal.coe_zero]
  · rw [P_zero]
    show Ideal.ofBits .f32 0xFF800000#32 = ⊥
    simp [Ideal.ofBits, Ideal.ieee]

/-- The second result. -/
theorem ref_state (H : (args m d).Real) (U : Unmixed m d) (i : Fin 8) (c : Fin 1024) (j : Fin 3) :
    (R_main_v62 (states m d 2048) (ix3 i c j) : EReal) = (args m d).state i c j := by
  have L := loops_states m d (loops_init H U i c) 2048 le_rfl
  rw [R_state_apply, L.aa, L.pp, L.bb (by decide)]; rfl

/-- The time mix's output. -/
theorem ref_y (H : (args m d).Real) (U : Unmixed m d) (i : Fin 8) (t : Fin 2048) (c : Fin 1024) :
    (refY (m ((d.tc : Thread nD τ).loc main_arg0)) (m ((d.tc : Thread nD τ).loc main_arg9)) (m ((d.tc : Thread nD τ).loc main_arg10))
      (m ((d.tc : Thread nD τ).loc main_arg15)) (m ((d.tc : Thread nD τ).loc main_arg5)) (states m d 2048).main_v57_8 (ix3 i t c) : EReal)
      = (args m d).y i t c := by
  have L := loops_states m d (loops_init H U i c) 2048 le_rfl
  have e : ∀ (x : Act Ideal) (g b r : Chan Ideal) (w : (⟨S1024x1024, .f32⟩ : BufTy).Contents (Elt Ideal)) (o : (⟨S2048x8x1024, .f32⟩ : BufTy).Contents (Elt Ideal)),
      (refY x g b r w o (ix3 i t c) : EReal) = x (ix3 i t c) + refGate (refShift (refLN x g b) r) w (ix3 i t c) * o (ix3 t i c) := by
    intro x g b r w o
    pointwise! [refY]
  rw [e, refGate_apply, proj_ln _ _ _ _ _ U.r, L.out t t.isLt]; rfl

/-- The channel mix of a tensor, row by row. -/
theorem refCm_apply (y : Act Ideal) (g b rk rr : Chan Ideal) (wk : (⟨S4096x1024, .f32⟩ : BufTy).Contents (Elt Ideal))
    (wv : (⟨S1024x4096, .f32⟩ : BufTy).Contents (Elt Ideal)) (wr : (⟨S1024x1024, .f32⟩ : BufTy).Contents (Elt Ideal))
    (hk : ∀ c, (rk (ix1 c) : EReal) = 1) (hr : ∀ c, (rr (ix1 c) : EReal) = 1) (i : Fin 8) (t : Fin 2048) (c : Fin 1024) (p : Args)
    (hg : p.g2 = fun c => g (ix1 c)) (hb : p.b2 = fun c => b (ix1 c)) (h1 : p.wkc = fun j e => wk (ix2 j e)) (h2 : p.wvc = fun c j => wv (ix2 c j))
    (h3 : p.wrc = fun c e => wr (ix2 c e)) :
    (refCm y g b rk rr wk wv wr (ix3 i t c) : EReal) = p.cm (fun e => y (ix3 i t e)) c := by
  have e : (refCm y g b rk rr wk wv wr (ix3 i t c) : EReal)
      = y (ix3 i t c) + refGate (refShift (refLN y g b) rr) wr (ix3 i t c) * refFfn (refShift (refLN y g b) rk) wk wv (ix3 i t c) := by
    pointwise! [refCm]
  have eh : ∀ j : Fin 4096, (refHid (refShift (refLN y g b) rk) wk (ix3 i t j) : EReal) = p.hid (fun e => y (ix3 i t e)) j := fun j => by
    rw [refHid_apply, Args.hid, hg, hb, h1]
    congr 1
    exact Finset.sum_congr rfl fun e _ => by rw [refShift_apply _ _ _ _ _ (hk e), refLN_apply]
  rw [e, refGate_apply, proj_ln _ _ _ _ _ hr, refFfn_apply, Args.cm, hg, hb, h2, h3]
  simp only [eh]

/-- The first result. -/
theorem ref_out (H : (args m d).Real) (U : Unmixed m d) (i : Fin 8) (t : Fin 2048) (c : Fin 1024) :
    (R_main_v169 (states m d 2048) (m ((d.tc : Thread nD τ).loc main_arg0)) (m ((d.tc : Thread nD τ).loc main_arg5)) (m ((d.tc : Thread nD τ).loc main_arg6))
      (m ((d.tc : Thread nD τ).loc main_arg7)) (m ((d.tc : Thread nD τ).loc main_arg8)) (m ((d.tc : Thread nD τ).loc main_arg9)) (m ((d.tc : Thread nD τ).loc main_arg10))
      (m ((d.tc : Thread nD τ).loc main_arg11)) (m ((d.tc : Thread nD τ).loc main_arg12)) (m ((d.tc : Thread nD τ).loc main_arg15)) (m ((d.tc : Thread nD τ).loc main_arg16))
      (m ((d.tc : Thread nD τ).loc main_arg17)) (ix3 i t c) : EReal) = (args m d).out i t c := by
  rw [R_out, refCm_apply _ _ _ _ _ _ _ _ U.ck U.cr i t c (args m d) rfl rfl rfl rfl rfl]
  unfold Args.out
  congr 1
  exact funext fun e => ref_y H U i t e

end Cert.ReferenceIdeal.Hand

end
-- ==== Proof.PreVal.lean ====
/- What the precondition says of the arguments: six are real, five are one. -/
module

public import proofs.«01_k».proof.Defs
public import proofs.«01_k».proof.Proof.Spec
public import Idealize.ShloMosaic.Lib.Pointwise

@[expose] public section

noncomputable section

namespace Cert.Pre_unmixed_and_finite.Hand

open Idealize.ShloMosaic
open Cert.Wkv

/-- The shape relations the precondition's function states. -/
instance facts : Cert.Pre_unmixed_and_finite.Facts := ⟨by decide, by decide, by decide⟩

/-- A magnitude below infinity is a real's. -/
theorem real_of_lt {x : EReal} (h : Ideal.cmp .olt (max x (-x)) (Ideal.ofBits .f32 0x7F800000#32) = 1#1) : IsR x := by
  have hb : Ideal.ofBits .f32 0x7F800000#32 = ⊤ := by simp [Ideal.ofBits, Ideal.ieee]
  rw [hb] at h
  induction x using EReal.rec with
  | bot => simp [Ideal.cmp] at h
  | coe r => exact ⟨r, rfl⟩
  | top => simp [Ideal.cmp] at h

/-- A value compared equal to one is one. -/
theorem one_of_eq {x : EReal} (h : Ideal.cmp .oeq x (Ideal.ofBits .f32 0x3F800000#32) = 1#1) : x = 1 := by
  have hb : Ideal.ofBits .f32 0x3F800000#32 = 1 := by simp [Ideal.ofBits, Ideal.ieee, -EReal.coe_mul]; norm_num
  rw [hb] at h
  by_contra hx
  simp [Ideal.cmp, hx] at h

/-- Where the magnitude mask of an array is all ones, each of its elements is real. -/
theorem real_of_mask {S : Shape} {a : FVec Ideal S .f32} {w : FVec Ideal S .f32} (hw : ∀ y, @Eq EReal (w y) (Ideal.ofBits .f32 0x7F800000#32))
    (h : cmpf .olt (Host.absf a) w = fun _ => 1#1) (y : S.Idx) : IsR (a y) := by
  have hy : Ideal.cmp .olt (max (a y) (-(a y) : EReal)) (w y) = 1#1 := congrFun h y
  rw [hw y] at hy
  exact real_of_lt hy

/-- Where the comparison of an array with one is all ones, each of its elements is one. -/
theorem one_of_mask {S : Shape} {a : FVec Ideal S .f32} {w : FVec Ideal S .f32} (hw : ∀ y, @Eq EReal (w y) (Ideal.ofBits .f32 0x3F800000#32))
    (h : cmpf .oeq a w = fun _ => 1#1) (y : S.Idx) : @Eq EReal (a y) 1 := by
  have hy : Ideal.cmp .oeq (a y) (w y) = 1#1 := congrFun h y
  rw [hw y] at hy
  exact one_of_eq hy

variable {a0 : FVec Ideal S8x2048x1024 .f32} {a1 a2 : FVec Ideal S1024 .f32} {a3 a4 a5 : FVec Ideal S1024x1024 .f32}
  {a6 : FVec Ideal S4096x1024 .f32} {a7 : FVec Ideal S1024x4096 .f32} {a8 : FVec Ideal S1024x1024 .f32}
  {a9 a10 a11 a12 a13 a14 a15 a16 a17 : FVec Ideal S1024 .f32}

/-- The precondition's mask on the sequence: its elements are real. -/
theorem real_x (h : (fn (F := Ideal) a0 a1 a2 a3 a4 a5 a6 a7 a8 a9 a10 a11 a12 a13 a14 a15 a16 a17).1 = fun _ => 1#1) (y) : IsR (a0 y) :=
  real_of_mask (fun _ => rfl) h y

/-- The precondition's mask on the bonus: its elements are real. -/
theorem real_tf (h : (fn (F := Ideal) a0 a1 a2 a3 a4 a5 a6 a7 a8 a9 a10 a11 a12 a13 a14 a15 a16 a17).2.1 = fun _ => 1#1) (y) : IsR (a2 y) :=
  real_of_mask (fun _ => rfl) h y

/-- The precondition's mask on the key weight: its elements are real. -/
theorem real_wk (h : (fn (F := Ideal) a0 a1 a2 a3 a4 a5 a6 a7 a8 a9 a10 a11 a12 a13 a14 a15 a16 a17).2.2.1 = fun _ => 1#1) (y) : IsR (a3 y) :=
  real_of_mask (fun _ => rfl) h y

/-- The precondition's mask on the value weight: its elements are real. -/
theorem real_wv (h : (fn (F := Ideal) a0 a1 a2 a3 a4 a5 a6 a7 a8 a9 a10 a11 a12 a13 a14 a15 a16 a17).2.2.2.1 = fun _ => 1#1) (y) : IsR (a4 y) :=
  real_of_mask (fun _ => rfl) h y

/-- The precondition's mask on the first scale: its elements are real. -/
theorem real_g1 (h : (fn (F := Ideal) a0 a1 a2 a3 a4 a5 a6 a7 a8 a9 a10 a11 a12 a13 a14 a15 a16 a17).2.2.2.2.1 = fun _ => 1#1) (y) : IsR (a9 y) :=
  real_of_mask (fun _ => rfl) h y

/-- The precondition's mask on the first shift: its elements are real. -/
theorem real_b1 (h : (fn (F := Ideal) a0 a1 a2 a3 a4 a5 a6 a7 a8 a9 a10 a11 a12 a13 a14 a15 a16 a17).2.2.2.2.2.1 = fun _ => 1#1) (y) : IsR (a10 y) :=
  real_of_mask (fun _ => rfl) h y

/-- The precondition's comparison on mixing ratio 1: its elements are one. -/
theorem one_13 (h : (fn (F := Ideal) a0 a1 a2 a3 a4 a5 a6 a7 a8 a9 a10 a11 a12 a13 a14 a15 a16 a17).2.2.2.2.2.2.1 = fun _ => 1#1) (y) : @Eq EReal (a13 y) 1 :=
  one_of_mask (fun _ => rfl) h y

/-- The precondition's comparison on mixing ratio 2: its elements are one. -/
theorem one_14 (h : (fn (F := Ideal) a0 a1 a2 a3 a4 a5 a6 a7 a8 a9 a10 a11 a12 a13 a14 a15 a16 a17).2.2.2.2.2.2.2.1 = fun _ => 1#1) (y) : @Eq EReal (a14 y) 1 :=
  one_of_mask (fun _ => rfl) h y

/-- The precondition's comparison on mixing ratio 3: its elements are one. -/
theorem one_15 (h : (fn (F := Ideal) a0 a1 a2 a3 a4 a5 a6 a7 a8 a9 a10 a11 a12 a13 a14 a15 a16 a17).2.2.2.2.2.2.2.2.1 = fun _ => 1#1) (y) : @Eq EReal (a15 y) 1 :=
  one_of_mask (fun _ => rfl) h y

/-- The precondition's comparison on mixing ratio 4: its elements are one. -/
theorem one_16 (h : (fn (F := Ideal) a0 a1 a2 a3 a4 a5 a6 a7 a8 a9 a10 a11 a12 a13 a14 a15 a16 a17).2.2.2.2.2.2.2.2.2.1 = fun _ => 1#1) (y) : @Eq EReal (a16 y) 1 :=
  one_of_mask (fun _ => rfl) h y

/-- The precondition's comparison on mixing ratio 5: its elements are one. -/
theorem one_17 (h : (fn (F := Ideal) a0 a1 a2 a3 a4 a5 a6 a7 a8 a9 a10 a11 a12 a13 a14 a15 a16 a17).2.2.2.2.2.2.2.2.2.2 = fun _ => 1#1) (y) : @Eq EReal (a17 y) 1 :=
  one_of_mask (fun _ => rfl) h y

end Cert.Pre_unmixed_and_finite.Hand

end
-- ==== Proof.Alg.lean ====
/- The two idealized programs end with equal results. -/
module

public import proofs.«01_k».proof.Proof.KerOut
public import proofs.«01_k».proof.Proof.RefOut
public import proofs.«01_k».proof.Proof.PreVal

@[expose] public section

noncomputable section

namespace Cert.Wkv

open Idealize.ShloMosaic Idealize.ShloMosaic.TcCoe

attribute [local instance] Cert.KernelIdeal.Gen.facts Cert.ReferenceIdeal.Gen.facts Cert.Pre_unmixed_and_finite.Hand.facts

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}

/-- The precondition makes the arguments the recurrence reads real. -/
theorem pre_real (hp : Cert.Pre_KernelIdeal_unmixed_and_finite m) (c : Dev Cert.KernelIdeal.nD) : (Cert.KernelIdeal.Hand.args m c).Real := by
  obtain ⟨p0, p1, p2, p3, p4, p5, -⟩ := hp c
  exact ⟨fun _ _ _ => Cert.Pre_unmixed_and_finite.Hand.real_x p0 _, fun _ => Cert.Pre_unmixed_and_finite.Hand.real_tf p1 _,
    fun _ _ => Cert.Pre_unmixed_and_finite.Hand.real_wk p2 _, fun _ _ => Cert.Pre_unmixed_and_finite.Hand.real_wv p3 _,
    fun _ => Cert.Pre_unmixed_and_finite.Hand.real_g1 p4 _, fun _ => Cert.Pre_unmixed_and_finite.Hand.real_b1 p5 _⟩

/-- The two programs' arguments agree on a device. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)

/-- Agreeing arguments are the same arguments of the block. -/
theorem args_eq {c : Dev Cert.KernelIdeal.nD} (h : Agree m m' c) : Cert.ReferenceIdeal.Hand.args m' c = Cert.KernelIdeal.Hand.args m c := by
  obtain ⟨h0, h1, h2, h3, h4, h5, h6, h7, h8, h9, h10, h11, h12, -⟩ := h
  unfold Cert.ReferenceIdeal.Hand.args Cert.KernelIdeal.Hand.args
  rw [h0, h1, h2, h3, h4, h5, h6, h7, h8, h9, h10, h11, h12]

/-- The precondition on the kernel's arguments leaves the reference's unmixed. -/
theorem pre_unmixed (hp : Cert.Pre_KernelIdeal_unmixed_and_finite m) {c : Dev Cert.KernelIdeal.nD} (h : Agree m m' c) :
    Cert.ReferenceIdeal.Hand.Unmixed m' c := by
  obtain ⟨-, -, -, -, -, -, p6, p7, p8, p9, p10⟩ := hp c
  obtain ⟨-, -, -, -, -, -, -, -, -, -, -, -, -, h13, h14, h15, h16, h17⟩ := h
  have e13 : ∀ j, @Eq EReal (m' ((c.tc : Thread Cert.ReferenceIdeal.nD Cert.ReferenceIdeal.τ).loc Cert.ReferenceIdeal.main_arg13) (ix1 j)) 1 := fun j => (congrFun h13 (ix1 j)).trans (Cert.Pre_unmixed_and_finite.Hand.one_13 p6 _)
  have e14 : ∀ j, @Eq EReal (m' ((c.tc : Thread Cert.ReferenceIdeal.nD Cert.ReferenceIdeal.τ).loc Cert.ReferenceIdeal.main_arg14) (ix1 j)) 1 := fun j => (congrFun h14 (ix1 j)).trans (Cert.Pre_unmixed_and_finite.Hand.one_14 p7 _)
  have e15 : ∀ j, @Eq EReal (m' ((c.tc : Thread Cert.ReferenceIdeal.nD Cert.ReferenceIdeal.τ).loc Cert.ReferenceIdeal.main_arg15) (ix1 j)) 1 := fun j => (congrFun h15 (ix1 j)).trans (Cert.Pre_unmixed_and_finite.Hand.one_15 p8 _)
  have e16 : ∀ j, @Eq EReal (m' ((c.tc : Thread Cert.ReferenceIdeal.nD Cert.ReferenceIdeal.τ).loc Cert.ReferenceIdeal.main_arg16) (ix1 j)) 1 := fun j => (congrFun h16 (ix1 j)).trans (Cert.Pre_unmixed_and_finite.Hand.one_16 p9 _)
  have e17 : ∀ j, @Eq EReal (m' ((c.tc : Thread Cert.ReferenceIdeal.nD Cert.ReferenceIdeal.τ).loc Cert.ReferenceIdeal.main_arg17) (ix1 j)) 1 := fun j => (congrFun h17 (ix1 j)).trans (Cert.Pre_unmixed_and_finite.Hand.one_17 p10 _)
  exact ⟨e13, e14, e15, e16, e17⟩

/-- The reference's first result is the kernel's. -/
theorem out_eq (hp : Cert.Pre_KernelIdeal_unmixed_and_finite m) {c : Dev Cert.KernelIdeal.nD} (h : Agree m m' c) :
    Cert.ReferenceIdeal.Step.R_main_v169 (Cert.ReferenceIdeal.Hand.states m' c 2048) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17))
      = Cert.KernelIdeal.Hand.W4 m c Cert.KernelIdeal.main_v19 := by
  have H := pre_real hp c
  have H' : (Cert.ReferenceIdeal.Hand.args m' c).Real := (args_eq h).symm ▸ H
  funext y
  obtain ⟨i, t, e, hy⟩ : ∃ (i : Fin 8) (t : Fin 2048) (e : Fin 1024), y = ix3 i t e := ⟨y 0, y 1, y 2, eq_ix3 y⟩
  rw [hy]
  refine (Cert.ReferenceIdeal.Hand.ref_out H' (pre_unmixed hp h) i t e).trans ?_
  rw [args_eq h]
  exact (Cert.KernelIdeal.Hand.end_out H i t e).symm

/-- The reference's second result is the kernel's. -/
theorem state_eq (hp : Cert.Pre_KernelIdeal_unmixed_and_finite m) {c : Dev Cert.KernelIdeal.nD} (h : Agree m m' c) :
    Cert.ReferenceIdeal.Step.R_main_v62 (Cert.ReferenceIdeal.Hand.states m' c 2048) = Cert.KernelIdeal.Hand.W4 m c Cert.KernelIdeal.main_v20 := by
  have H := pre_real hp c
  have H' : (Cert.ReferenceIdeal.Hand.args m' c).Real := (args_eq h).symm ▸ H
  funext y
  obtain ⟨i, e, j, hy⟩ : ∃ (i : Fin 8) (e : Fin 1024) (j : Fin 3), y = ix3 i e j := ⟨y 0, y 1, y 2, eq_ix3 y⟩
  rw [hy]
  refine (Cert.ReferenceIdeal.Hand.ref_state H' (pre_unmixed hp h) i e j).trans ?_
  rw [args_eq h]
  exact (Cert.KernelIdeal.Hand.end_state H i e j).symm

/-- The algebraic claim: from agreeing arguments, the two idealized programs end with equal results and their arguments unchanged. -/
theorem algebraic : Cert.algebraic_KernelIdeal_ReferenceIdeal_pre_unmixed_and_finite := by
  intro m g m' g' hp hag
  refine ⟨fun c => Cert.KernelIdeal.Hand.W4 m c Cert.KernelIdeal.main_v19, fun c => Cert.KernelIdeal.Hand.W4 m c Cert.KernelIdeal.main_v20, ?_, ?_⟩
  · exact Cert.KernelIdeal.Hand.run m g _ fun s h hz c =>
      ⟨h c _ (Cert.KernelIdeal.Hand.mem_uc Cert.KernelIdeal.main_v19 (by decide)), h c _ (Cert.KernelIdeal.Hand.mem_uc Cert.KernelIdeal.main_v20 (by decide)),
       Cert.KernelIdeal.Hand.end_arg m (h c) Cert.KernelIdeal.main_arg0 (by decide) (by decide),
       Cert.KernelIdeal.Hand.end_arg m (h c) Cert.KernelIdeal.main_arg1 (by decide) (by decide),
       Cert.KernelIdeal.Hand.end_arg m (h c) Cert.KernelIdeal.main_arg2 (by decide) (by decide),
       Cert.KernelIdeal.Hand.end_arg m (h c) Cert.KernelIdeal.main_arg3 (by decide) (by decide),
       Cert.KernelIdeal.Hand.end_arg m (h c) Cert.KernelIdeal.main_arg4 (by decide) (by decide),
       Cert.KernelIdeal.Hand.end_arg m (h c) Cert.KernelIdeal.main_arg5 (by decide) (by decide),
       Cert.KernelIdeal.Hand.end_arg m (h c) Cert.KernelIdeal.main_arg6 (by decide) (by decide),
       Cert.KernelIdeal.Hand.end_arg m (h c) Cert.KernelIdeal.main_arg7 (by decide) (by decide),
       Cert.KernelIdeal.Hand.end_arg m (h c) Cert.KernelIdeal.main_arg8 (by decide) (by decide),
       Cert.KernelIdeal.Hand.end_arg m (h c) Cert.KernelIdeal.main_arg9 (by decide) (by decide),
       Cert.KernelIdeal.Hand.end_arg m (h c) Cert.KernelIdeal.main_arg10 (by decide) (by decide),
       Cert.KernelIdeal.Hand.end_arg m (h c) Cert.KernelIdeal.main_arg11 (by decide) (by decide),
       Cert.KernelIdeal.Hand.end_arg m (h c) Cert.KernelIdeal.main_arg12 (by decide) (by decide),
       Cert.KernelIdeal.Hand.end_arg m (h c) Cert.KernelIdeal.main_arg13 (by decide) (by decide),
       Cert.KernelIdeal.Hand.end_arg m (h c) Cert.KernelIdeal.main_arg14 (by decide) (by decide),
       Cert.KernelIdeal.Hand.end_arg m (h c) Cert.KernelIdeal.main_arg15 (by decide) (by decide),
       Cert.KernelIdeal.Hand.end_arg m (h c) Cert.KernelIdeal.main_arg16 (by decide) (by decide),
       Cert.KernelIdeal.Hand.end_arg m (h c) Cert.KernelIdeal.main_arg17 (by decide) (by decide)⟩
  · exact (θ_run (Cert.ReferenceIdeal.defs (F := Ideal)) _ _).mono
      (fun r h c => ⟨(h c).1.trans (out_eq hp (hag c)), (h c).2.1.trans (state_eq hp (hag c)), (h c).2.2⟩)
      (Cert.ReferenceIdeal.Hand.run_iter m' g' (Cert.ReferenceIdeal.Hand.states m') (fun _ => rfl) (fun _ _ => rfl))

end Cert.Wkv

end
-- ==== Proof.lean ====
/- The proof of the claim: three frames, the idealization, and the algebraic equality under the precondition. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.RefRun
public import proofs.«01_k».proof.Proof.LaunchIdeal
public import proofs.«01_k».proof.Proof.Same
public import proofs.«01_k».proof.Proof.Alg
public import Idealize.ShloMosaic.Adequacy
public import Idealize.ShloMosaic.Init

@[expose] public section

noncomputable section

namespace Cert.Proof

open Idealize.ShloMosaic Idealize.SL.Sem Cert.Kernel

/-- All the claims: each program's frame, with and without the precondition; that the idealization rewrites nothing; that the two
    idealized programs end with equal results. -/
theorem claim : Cert.Claim := ⟨Cert.Kernel.Gen.facts, Cert.KernelIdeal.Gen.facts, Cert.ReferenceIdeal.Gen.facts,
  Cert.Pre_unmixed_and_finite.Hand.facts,
  fun m ρ _ => Cert.Kernel.Hand.frame m ρ, fun m ρ _ => Cert.KernelIdeal.Hand.frame m ρ, fun m ρ _ => Cert.KernelIdeal.Hand.frame m ρ,
  fun m ρ _ => Cert.ReferenceIdeal.Hand.frame m ρ, fun m ρ _ => Cert.ReferenceIdeal.Hand.frame m ρ, trivial, Cert.Wkv.algebraic⟩

end Cert.Proof

end
